-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2048x2048 : Shape := ⟨2, ![2048, 2048]⟩
abbrev S512x2048 : Shape := ⟨2, ![512, 2048]⟩
abbrev S4x512x512 : Shape := ⟨3, ![4, 512, 512]⟩
abbrev S2x512x2048 : Shape := ⟨3, ![2, 512, 2048]⟩
abbrev S3 : Shape := ⟨1, ![3]⟩
abbrev S4 : Shape := ⟨1, ![4]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .local _ .vmem, ⟨0, _⟩ => ⟨S2048x512, .f32⟩
  | .local _ .vmem, ⟨1, _⟩ => ⟨S512x2048, .f32⟩
  | .local _ .vmem, ⟨2, _⟩ => ⟨S4x512x512, .bf16⟩
  | .local _ .vmem, ⟨3, _⟩ => ⟨S4x512x512, .bf16⟩
  | .local _ .vmem, ⟨4, _⟩ => ⟨S2x512x2048, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v3 : BitVec 32 := Scalar.muli v2 c512_i32
  let c0_i32_3 : BitVec 32 := 0#32
  ![v3.toNat, 0]
def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v10 : BitVec 32 := Scalar.addi v2 c1_i32_4
  let c4_i32_5 : BitVec 32 := 4#32
  let v11 : BitVec 32 := Scalar.remsi v10 c4_i32_5
  let c1_i32_7 : BitVec 32 := 1#32
  let v12 : BitVec 32 := Scalar.muli v11 c1_i32_7
  let v13 : BitVec 32 := Scalar.addi c0_i32_8 v12
  v13.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_9 : BitVec 32 := 4#32
  let v15 : BitVec 32 := Scalar.remsi v14 c4_i32_9
  let c1_i32_11 : BitVec 32 := 1#32
  let v16 : BitVec 32 := Scalar.muli v15 c1_i32_11
  let v17 : BitVec 32 := Scalar.addi c0_i32_12 v16
  v17.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v18 : BitVec 32 := Scalar.addi v2 c3_i32
  let c4_i32_13 : BitVec 32 := 4#32
  let v19 : BitVec 32 := Scalar.remsi v18 c4_i32_13
  let c1_i32_15 : BitVec 32 := 1#32
  let v20 : BitVec 32 := Scalar.muli v19 c1_i32_15
  let v21 : BitVec 32 := Scalar.addi c0_i32_16 v20
  v21.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v22 : BitVec 32 := Scalar.addi v2 c1_i32_17
  let c4_i32_18 : BitVec 32 := 4#32
  let v23 : BitVec 32 := Scalar.remsi v22 c4_i32_18
  let c512_i32_19 : BitVec 32 := 512#32
  let v24 : BitVec 32 := Scalar.muli v23 c512_i32_19
  let v25 : Index := Scalar.indexCast v24
  let c0 : Index := 0#32
  ![v25.toNat, 0]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_29 : BitVec 32 := 0#32
  let c0_i32_30 : BitVec 32 := 0#32
  ![v2.toNat, 0, 0]
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v32 : BitVec 32 := Scalar.addi v2 c1_i32_23
  let c4_i32_24 : BitVec 32 := 4#32
  let v33 : BitVec 32 := Scalar.remsi v32 c4_i32_24
  let c1_i32_27 : BitVec 32 := 1#32
  let v34 : BitVec 32 := Scalar.muli v33 c1_i32_27
  let v35 : BitVec 32 := Scalar.addi c0_i32_28 v34
  v35.toNat
def k0_off5 (d0 : Dev nD) (c1_i32_33 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v44 : BitVec 32 := Scalar.addi v2 c1_i32_33
  let c1_i32_34 : BitVec 32 := 1#32
  let v45 : BitVec 32 := Scalar.addi v44 c1_i32_34
  let c4_i32_35 : BitVec 32 := 4#32
  let v46 : BitVec 32 := Scalar.remsi v45 c4_i32_35
  let c512_i32_36 : BitVec 32 := 512#32
  let v47 : BitVec 32 := Scalar.muli v46 c512_i32_36
  let v48 : Index := Scalar.indexCast v47
  let c0_37 : Index := 0#32
  ![v48.toNat, 0]
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_40 : BitVec 32 := 2#32
  let v55 : BitVec 32 := Scalar.addi v2 c2_i32_40
  let c4_i32_41 : BitVec 32 := 4#32
  let v56 : BitVec 32 := Scalar.remsi v55 c4_i32_41
  let c1_i32_44 : BitVec 32 := 1#32
  let v57 : BitVec 32 := Scalar.muli v56 c1_i32_44
  let v58 : BitVec 32 := Scalar.addi c0_i32_45 v57
  v58.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_57 : BitVec 32 := 3#32
  let v78 : BitVec 32 := Scalar.addi v2 c3_i32_57
  let c4_i32_58 : BitVec 32 := 4#32
  let v79 : BitVec 32 := Scalar.remsi v78 c4_i32_58
  let c1_i32_61 : BitVec 32 := 1#32
  let v80 : BitVec 32 := Scalar.muli v79 c1_i32_61
  let v81 : BitVec 32 := Scalar.addi c0_i32_62 v80
  v81.toNat
def k0_off6 (d0 : Dev nD) (c1_i32_67 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v90 : BitVec 32 := Scalar.addi v2 c1_i32_67
  let c4_i32_68 : BitVec 32 := 4#32
  let v91 : BitVec 32 := Scalar.remsi v90 c4_i32_68
  let c512_i32_69 : BitVec 32 := 512#32
  let v92 : BitVec 32 := Scalar.muli v91 c512_i32_69
  let c0_i32_74 : BitVec 32 := 0#32
  ![v92.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_80 : BitVec 32 := 512#32
  let v103 : BitVec 32 := Scalar.muli v2 c512_i32_80
  let v104 : Index := Scalar.indexCast v103
  let c0_81 : Index := 0#32
  ![v104.toNat, 0]
def k0_off8 (d0 : Dev nD) (c1_i32_95 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_95
  let c4_i32_96 : BitVec 32 := 4#32
  let v120 : BitVec 32 := Scalar.remsi v119 c4_i32_96
  ![v120.toNat]
def k0_off9 (d0 : Dev nD) (c1_i32_95 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_95
  let c4_i32_96 : BitVec 32 := 4#32
  let v120 : BitVec 32 := Scalar.remsi v119 c4_i32_96
  let c0_i32_100 : BitVec 32 := 0#32
  let c0_i32_101 : BitVec 32 := 0#32
  ![v120.toNat, 0, 0]
def k0_off10 (d0 : Dev nD) (c1_i32_95 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v119 : BitVec 32 := Scalar.addi v2 c1_i32_95
  let c4_i32_96 : BitVec 32 := 4#32
  let v120 : BitVec 32 := Scalar.remsi v119 c4_i32_96
  let v136 : Index := Scalar.indexCast v120
  let c0_111 : Index := 0#32
  let c0_112 : Index := 0#32
  ![v136.toNat, 0, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Slots.lean ====
/- The buffers of the kernel, cut into slots.

   `stage` and `comm` are arrays of four `512 × 512` tiles, `w_buf` an array of two `512 × 2048` tiles, the weight
   matrix four row blocks of `512 × 2048`, `x` four row blocks of `512 × 512`. This module names the tiles, says which
   elements each one is, that the tiles of a buffer are disjoint and cover it, and what is read through a tile after
   something was written through it. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.AllToAll

open Cert.KernelIdeal Cert.KernelIdeal.Gen

open Idealize.ShloMosaic
open Idealize.ShloMosaic.TcCoe

/-! ## The devices, in their cyclic order -/

set_option backward.proofsInPublic true in
/-- The device `k` places after `c` in the cycle of four. -/
def nx (k : Fin 4) (c : Dev nD) : Dev nD := ⟨(c.val + k.val) % 4, Nat.mod_lt _ (by decide)⟩

theorem nx_nx_13 (c : Dev nD) : nx 1 (nx 3 c) = c := by revert c; decide
theorem nx_nx_31 (c : Dev nD) : nx 3 (nx 1 c) = c := by revert c; decide
theorem nx_nx_22 (c : Dev nD) : nx 2 (nx 2 c) = c := by revert c; decide
theorem nx1_ne (c : Dev nD) : nx 1 c ≠ c := by revert c; decide
theorem nx2_ne (c : Dev nD) : nx 2 c ≠ c := by revert c; decide
theorem nx3_ne (c : Dev nD) : nx 3 c ≠ c := by revert c; decide

/-- `c` and the three devices after it are all four devices, -/
theorem devs_eq (c : Dev nD) : (Finset.univ : Finset (Dev nD)) = [c, nx 1 c, nx 2 c, nx 3 c].toFinset := by revert c; decide
/-- each named once. -/
theorem devs_nodup (c : Dev nD) : [c, nx 1 c, nx 2 c, nx 3 c].Nodup := by revert c; decide

/-! ## Reading back through a tile -/

section Tile

variable {Val : EltTy → Type} {b : Ref sig .tc} {s' : Shape}

/-- The elements of a tile are those of its rectangle. -/
theorem tile_set (r : Rect b.ty.shape) (hs) (hq : r.shape.Squeezes s') :
    (((Memref.whole b).slice r hs).squeeze s' hq).view.set = r.set := by
  rw [Memref.set_view_squeeze]; exact View.set_slice_whole b r

/-- What was written through a whole tile, loaded back from the buffer at the tile's rectangle, however its offset is
    spelt: the same values, with a leading axis of length one. -/
theorem tile_load {off off' size : Fin b.ty.shape.rank → ℕ} (h : off' = off) (p : ∀ a, off a + size a ≤ b.ty.shape.size a)
    (p' : ∀ a, off' a + size a ≤ b.ty.shape.size a) (hs) (hq : (Rect.unit off size p).shape.Squeezes s')
    (hc : s'.ShapeCasts (Rect.unit off' size p').shape) (f : b.ty.Contents Val) (w : s'.Idx → Val b.ty.elt) :
    (Memref.whole b).view.readAt Val (Rect.unit off' size p').toLoadRect
      ((((Memref.whole b).slice (Rect.unit off size p) hs).squeeze s' hq).view.write Val f w Finset.univ) = shapeCast _ w hc := by
  subst h
  funext i
  have hj : (((Memref.whole b).slice (Rect.unit off' size p) hs).squeeze s' hq).view.emb (Shape.reshapeEquiv hc i)
      = ((Memref.whole b).view.slice (Rect.unit off' size p)).emb i := by
    show ((Memref.whole b).view.slice (Rect.unit off' size p)).emb (Shape.reshapeEquiv _ (Shape.reshapeEquiv _ i)) = _
    rw [Shape.reshapeEquiv_reshapeEquiv, Shape.reshapeEquiv_self]
  have hw := View.write_emb_of_mem (Val := Val) (v := (((Memref.whole b).slice (Rect.unit off' size p) hs).squeeze s' hq).view) f w
    (Finset.mem_univ (Shape.reshapeEquiv hc i))
  rw [hj] at hw
  exact hw

/-- What was stored over a whole tile through the buffer, read through the tile: the values stored, their leading axis
    dropped. -/
theorem tile_read (r : Rect b.ty.shape) (hs) (hq : r.shape.Squeezes s') (hc : r.shape.ShapeCasts s')
    (f : b.ty.Contents Val) (w : r.shape.Idx → Val b.ty.elt) :
    (((Memref.whole b).slice r hs).squeeze s' hq).view.read Val
      (((Memref.whole b).access r : View sig .tc _ _ _).write Val f w Finset.univ) = shapeCast s' w hc := by
  funext i
  have := congrFun (View.read_write_univ (v := ((Memref.whole b).access r : View sig .tc _ _ _)) (Val := Val) f w)
    (Shape.reshapeEquiv hc i)
  exact this

end Tile

/-- Taking a leading axis of length one away again changes nothing. -/
theorem shapeCast_back {α : Type} {s t : Shape} (x : s.Idx → α) (h : s.ShapeCasts t) (h' : t.ShapeCasts s) :
    shapeCast s (shapeCast t x h) h' = x := by
  funext i
  show x (Shape.reshapeEquiv _ (Shape.reshapeEquiv _ i)) = x i
  rw [Shape.reshapeEquiv_reshapeEquiv, Shape.reshapeEquiv_self]

/-- Casting a shape to itself changes nothing. -/
theorem shapeCast_same {α : Type} {s : Shape} (x : s.Idx → α) (h : s.ShapeCasts s) : shapeCast s x h = x := by
  funext i
  show x (Shape.reshapeEquiv _ i) = x i
  rw [Shape.reshapeEquiv_self]

/-! ## The tiles -/

/-- The staging buffer of `x`, of the result; the weight matrix; the send tiles, the landing tiles, the weight tiles. -/
abbrev xM : Memref sig .tc .vmem S2048x512 .f32 := Memref.whole cc0_stg0_0
abbrev oM : Memref sig .tc .vmem S512x2048 .f32 := Memref.whole cc0_stg1_0
abbrev wM : Memref sig .tc .hbm S2048x2048 .f32 := Memref.whole main_arg1
abbrev sM : Memref sig .tc .vmem S4x512x512 .bf16 := Memref.whole cc0_scratch0
abbrev cM : Memref sig .tc .vmem S4x512x512 .bf16 := Memref.whole cc0_scratch1
abbrev bM : Memref sig .tc .vmem S2x512x2048 .f32 := Memref.whole cc0_scratch2

/-- The landing tile kept for what device `s` sends. -/
abbrev cmT (s : Dev nD) : Memref sig .tc .vmem S512x512 .bf16 :=
  (cM.slice (Rect.unit (s := S4x512x512) (k0_off4 s) S1x512x512.size (k0_off4_inb s)) (fun _ => rfl)).squeeze S512x512 squeezes_S1x512x512_S512x512
/-- The send tile at a given offset. -/
abbrev stT (off : Fin 3 → ℕ) (h : ∀ a, off a + S1x512x512.size a ≤ S4x512x512.size a) : Memref sig .tc .vmem S512x512 .bf16 :=
  (sM.slice (Rect.unit (s := S4x512x512) off S1x512x512.size h) (fun _ => rfl)).squeeze S512x512 squeezes_S1x512x512_S512x512
abbrev st1 : Memref sig .tc .vmem S512x512 .bf16 := stT ![1, 0, 0] inb_S4x512x512_S1x512x512_1_0_0
abbrev st2 : Memref sig .tc .vmem S512x512 .bf16 := stT ![2, 0, 0] inb_S4x512x512_S1x512x512_2_0_0
abbrev st3 : Memref sig .tc .vmem S512x512 .bf16 := stT ![3, 0, 0] inb_S4x512x512_S1x512x512_3_0_0
/-- The weight tile at a given offset. -/
abbrev wbT (off : Fin 3 → ℕ) (h : ∀ a, off a + S1x512x2048.size a ≤ S2x512x2048.size a) : Memref sig .tc .vmem S512x2048 .f32 :=
  (bM.slice (Rect.unit (s := S2x512x2048) off S1x512x2048.size h) (fun _ => rfl)).squeeze S512x2048 squeezes_S1x512x2048_S512x2048
abbrev wb0 : Memref sig .tc .vmem S512x2048 .f32 := wbT ![0, 0, 0] inb_S2x512x2048_S1x512x2048_0_0_0
abbrev wb1 : Memref sig .tc .vmem S512x2048 .f32 := wbT ![1, 0, 0] inb_S2x512x2048_S1x512x2048_1_0_0
/-- Row block `j` of the weight matrix. -/
abbrev wrT (j : Dev nD) : Memref sig .tc .hbm S512x2048 .f32 :=
  wM.slice (Rect.unit (s := S2048x2048) (k0_off1 j) S512x2048.size (k0_off1_inb j)) (fun _ => rfl)

/-- The elements of tile `k` of a stack of four. -/
def slot4 (k : ℕ) : Finset S4x512x512.Idx := Finset.univ.filter fun i => (i 0).val = k
/-- The elements of tile `k` of a stack of two. -/
def slot2 (k : ℕ) : Finset S2x512x2048.Idx := Finset.univ.filter fun i => (i 0).val = k
/-- The elements of row block `k` of the weight matrix. -/
def rows4 (k : ℕ) : Finset S2048x2048.Idx := Finset.univ.filter fun i => (i 0).val / 512 = k

theorem rect_slot4 {off : Fin 3 → ℕ} (k : ℕ) (h : off = ![k, 0, 0]) (p : ∀ a, off a + S1x512x512.size a ≤ S4x512x512.size a) :
    (Rect.unit (s := S4x512x512) off S1x512x512.size p).set = slot4 k := by
  subst h
  ext i
  rw [Rect.mem_set_unit]
  simp only [slot4, Finset.mem_filter, Finset.mem_univ, true_and]
  constructor
  · intro h
    have := h 0
    simp at this
    omega
  · intro h a
    have h1 := (i 1).isLt
    have h2 := (i 2).isLt
    fin_cases a
    · simp; omega
    · simpa using h1
    · simpa using h2

theorem rect_slot2 {off : Fin 3 → ℕ} (k : ℕ) (h : off = ![k, 0, 0]) (p : ∀ a, off a + S1x512x2048.size a ≤ S2x512x2048.size a) :
    (Rect.unit (s := S2x512x2048) off S1x512x2048.size p).set = slot2 k := by
  subst h
  ext i
  rw [Rect.mem_set_unit]
  simp only [slot2, Finset.mem_filter, Finset.mem_univ, true_and]
  constructor
  · intro h
    have := h 0
    simp at this
    omega
  · intro h a
    have h1 := (i 1).isLt
    have h2 := (i 2).isLt
    fin_cases a
    · simp; omega
    · simpa using h1
    · simpa using h2

theorem rect_rows4 {off : Fin 2 → ℕ} (k : ℕ) (h : off = ![512 * k, 0]) (p : ∀ a, off a + S512x2048.size a ≤ S2048x2048.size a) :
    (Rect.unit (s := S2048x2048) off S512x2048.size p).set = rows4 k := by
  subst h
  ext i
  rw [Rect.mem_set_unit]
  simp only [rows4, Finset.mem_filter, Finset.mem_univ, true_and]
  constructor
  · intro h
    have := h 0
    simp at this
    omega
  · intro h a
    have h1 := (i 1).isLt
    fin_cases a
    · simp; omega
    · simpa using h1

theorem cmT_set (s : Dev nD) : (cmT s).view.set = slot4 s.val :=
  (tile_set (b := cc0_scratch1) (Rect.unit (s := S4x512x512) (k0_off4 s) S1x512x512.size (k0_off4_inb s)) (fun _ => rfl)
    squeezes_S1x512x512_S512x512).trans (rect_slot4 s.val (k0_off4_eq s) _)
theorem stT_set {off : Fin 3 → ℕ} (k : ℕ) (h : off = ![k, 0, 0]) (p : ∀ a, off a + S1x512x512.size a ≤ S4x512x512.size a) :
    (stT off p).view.set = slot4 k :=
  (tile_set (b := cc0_scratch0) (Rect.unit (s := S4x512x512) off S1x512x512.size p) (fun _ => rfl)
    squeezes_S1x512x512_S512x512).trans (rect_slot4 k h _)
theorem wbT_set {off : Fin 3 → ℕ} (k : ℕ) (h : off = ![k, 0, 0]) (p : ∀ a, off a + S1x512x2048.size a ≤ S2x512x2048.size a) :
    (wbT off p).view.set = slot2 k :=
  (tile_set (b := cc0_scratch2) (Rect.unit (s := S2x512x2048) off S1x512x2048.size p) (fun _ => rfl)
    squeezes_S1x512x2048_S512x2048).trans (rect_slot2 k h _)
theorem wrT_set (j : Dev nD) : (wrT j).view.set = rows4 j.val := (View.set_slice_whole main_arg1 _).trans (rect_rows4 j.val (k0_off1_eq j) _)

/-- A stack of tiles is the union of its tiles, which are disjoint: stated for a stack indexed by `κ`. -/
theorem fibers_disjoint {I : Type} [Fintype I] [DecidableEq I] (κ : I → ℕ) {k k' : ℕ} (h : k ≠ k') :
    Disjoint (Finset.univ.filter fun i => κ i = k) (Finset.univ.filter fun i => κ i = k') :=
  Finset.disjoint_filter.mpr fun _ _ e e' => h (e.symm.trans e')

theorem fibers_cover4 {I : Type} [Fintype I] [DecidableEq I] (κ : I → ℕ) (hκ : ∀ i, κ i < 4) :
    (Finset.univ : Finset I) = (Finset.univ : Finset (Dev nD)).biUnion fun d => Finset.univ.filter fun i => κ i = d.val := by
  ext i
  simp only [Finset.mem_univ, Finset.mem_biUnion, Finset.mem_filter, true_and, true_iff]
  exact ⟨⟨κ i, hκ i⟩, rfl⟩

end Cert.AllToAll

end

end
-- ==== Proof.Values.lean ====
/- What the kernel computes on a device, from the blocks of `x` the devices hold and from the weight matrix: the tile one
   device sends another, the four products and their sum, in the order the kernel forms it. Stated for any float
   instance. -/
module

public import proofs.«01_k».proof.Proof.Slots

@[expose] public section

noncomputable section

namespace Cert.AllToAll

open Cert.KernelIdeal Cert.KernelIdeal.Gen

open Idealize.ShloMosaic
open Idealize.ShloMosaic.TcCoe

variable {F : FTy → Type} [FloatOps F]

theorem xrows_inb (j : Dev nD) : ∀ a, (![512 * j.val, 0] : Fin 2 → ℕ) a + S512x512.size a ≤ S2048x512.size a := by
  revert j; decide

/-- Row block `j` of a device's `x`: its rows `512 j … 512 j + 511`. -/
def xblk (X : (cc0_stg0_0 : Ref sig .tc).ty.Contents (Elt F)) (j : Dev nD) : FVec F S512x512 .f32 :=
  xM.view.readAt (Elt F) (Rect.unit (s := S2048x512) ![512 * j.val, 0] S512x512.size (xrows_inb j)).toLoadRect X

/-- A load of `512` rows of `x`, its offset spelt any way, is a row block. -/
theorem load_x {off : Fin 2 → ℕ} (j : Dev nD) (h : off = ![512 * j.val, 0])
    (p : ∀ a, off a + S512x512.size a ≤ S2048x512.size a) (X : (cc0_stg0_0 : Ref sig .tc).ty.Contents (Elt F)) :
    xM.view.readAt (Elt F) (Rect.unit (s := S2048x512) off S512x512.size p).toLoadRect X = xblk X j := by
  subst h; rfl

/-- The tile sent to device `j` by the device holding `X`: row block `j`, in the narrow format. -/
def sentTo (X : (cc0_stg0_0 : Ref sig .tc).ty.Contents (Elt F)) (j : Dev nD) : FVec F S512x512 .bf16 :=
  truncf .bf16 (xblk X j) bitsLt_bf16_f32

/-- Row block `j` of the weight matrix. -/
def wblk (W : (main_arg1 : Ref sig .tc).ty.Contents (Elt F)) (j : Dev nD) : FVec F S512x2048 .f32 :=
  (wrT j).view.read (Elt F) W

theorem wide_casts : S512x2048.ShapeCasts S1x512x2048 := by decide

/-- A tile with a leading axis of length one: how the kernel loads a landing tile, -/
def lead (w : FVec F S512x512 .bf16) : Vec F S1x512x512 .bf16 := shapeCast S1x512x512 w shapeCasts_S512x512_S1x512x512
/-- and a weight tile. -/
def leadW (w : FVec F S512x2048 .f32) : Vec F S1x512x2048 .f32 := shapeCast S1x512x2048 w wide_casts

variable (X : Dev nD → (cc0_stg0_0 : Ref sig .tc).ty.Contents (Elt F)) (W : (main_arg1 : Ref sig .tc).ty.Contents (Elt F))

/-- The result buffer of device `c` after its own block, -/
def acc0 (c : Dev nD) : FVec F S512x2048 .f32 := k0_pay6 (xblk (X c) c) (leadW (wblk W c))
/-- after the tile of the next device, -/
def acc1 (c : Dev nD) : FVec F S512x2048 .f32 := k0_pay7 (acc0 X W c) (lead (sentTo (X (nx 1 c)) c)) (leadW (wblk W (nx 1 c)))
/-- of the one after that, -/
def acc2 (c : Dev nD) : FVec F S512x2048 .f32 :=
  k0_pay10 (k0_pay8 (acc1 X W c)) (k0_pay9 (lead (sentTo (X (nx 2 c)) c)) (leadW (wblk W (nx 2 c))))
/-- of the last, -/
def acc3 (c : Dev nD) : FVec F S512x2048 .f32 := k0_pay11 (acc2 X W c) (lead (sentTo (X (nx 3 c)) c)) (leadW (wblk W (nx 3 c)))
/-- and after the maximum with zero: what the device's part of the result ends holding. -/
def outVal (c : Dev nD) : FVec F S512x2048 .f32 := k0_pay1 (acc3 X W c)

/-! ## The tiles stored for sending -/

/-- The three stores to the send buffer put the tile meant for the peer, behind a leading axis. -/
theorem pay3_eq (X : (cc0_stg0_0 : Ref sig .tc).ty.Contents (Elt F)) (j : Dev nD) : k0_pay3 (k0_pay2 (xblk X j)) = lead (sentTo X j) := by
  unfold k0_pay3 k0_pay2 lead sentTo
  simp only [shapeCast_same]
theorem pay4_eq (X : (cc0_stg0_0 : Ref sig .tc).ty.Contents (Elt F)) (j : Dev nD) : k0_pay4 (xblk X j) = lead (sentTo X j) := by
  unfold k0_pay4 lead sentTo
  simp only [shapeCast_same]
theorem pay5_eq (X : (cc0_stg0_0 : Ref sig .tc).ty.Contents (Elt F)) (j : Dev nD) : k0_pay5 (xblk X j) = lead (sentTo X j) := by
  unfold k0_pay5 lead sentTo
  simp only [shapeCast_same]

end Cert.AllToAll

end

end
-- ==== Proof.Protocol.lean ====
/- The protocol of the exchange.

   Every device signals the barrier semaphore of each other device and waits for three signals on its own; its signal to
   device `p` hands over the landing tile it keeps for `p`. After the wait a device sends each of the others one tile;
   the transfer to `p` credits a send semaphore of the sender (handing the send tile back) and, on `p`, the receive
   semaphore of the sender (handing `p` the landing tile, filled).

   One round, under the rounds library. Duty `k` of a barrier cell is paid by the device `k` places further on; send and
   receive cells have the one duty `0`. The two semaphores of the weight transfers are local to a device and are used
   outside this schedule. -/
module

public import proofs.«01_k».proof.Proof.Values

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the rounds' (duties named by `Fin 4`), the local transfers' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The `x` a device holds in its staging buffer, and the weight matrix. -/
def xstg (c : Dev nD) : (cc0_stg0_0 : Ref sig .tc).ty.Contents (Elt F) :=
  (win0_0.blk (0 : Fin 1)).view.read (Elt F) ((s₀ m ρ).mem ((c : Thread nD τ).loc main_arg0))
def wmat (c : Dev nD) : (main_arg1 : Ref sig .tc).ty.Contents (Elt F) := (s₀ m ρ).mem ((c : Thread nD τ).loc main_arg1)

/-! ## The cells -/

/-- The barrier semaphore, the three send semaphores, the four receive semaphores (one per sender), the two of the weight
    transfers. -/
abbrev barS : Sem sig := (SemArray.scalar (sig.barrier 0 rfl) : Sems sig S_).sem
def sendS : Fin 3 → DmaSem sig := fun | 0 => 2 | 1 => 3 | 2 => 4
def recvS : Dev nD → DmaSem sig := fun | 0 => 5 | 1 => 6 | 2 => 7 | 3 => 8
abbrev w0S : DmaSem sig := 9
abbrev w1S : DmaSem sig := 10

theorem send_inb (k : Fin 3) : ∀ a, (![k.val] : Fin 1 → ℕ) a + S1.size a ≤ S3.size a := by revert k; decide
theorem recv_inb (s : Dev nD) : ∀ a, (![s.val] : Fin 1 → ℕ) a + S1.size a ≤ S4.size a := by revert s; decide
theorem sendSem_lit : ∀ k : Fin 3,
    ((cc0_scratch3.slice (Rect.unit (s := S3) ![k.val] S1.size (send_inb k))).squeeze S_ squeezes_S1_S_).sem = sendS k := by decide
theorem recvSem_lit : ∀ s : Dev nD,
    ((cc0_scratch4.slice (Rect.unit (s := S4) ![s.val] S1.size (recv_inb s))).squeeze S_ squeezes_S1_S_).sem = recvS s := by decide

/-- The semaphores as the kernel names them: an element of an array of semaphores, its index spelt any way. -/
theorem sendSem_eq (k : Fin 3) {off : Fin 1 → ℕ} (h : off = ![k.val]) (p : ∀ a, off a + S1.size a ≤ S3.size a) :
    ((cc0_scratch3.slice (Rect.unit (s := S3) off S1.size p)).squeeze S_ squeezes_S1_S_).sem = sendS k := by
  subst h; exact sendSem_lit k
theorem recvSem_eq (s : Dev nD) {off : Fin 1 → ℕ} (h : off = ![s.val]) (p : ∀ a, off a + S1.size a ≤ S4.size a) :
    ((cc0_scratch4.slice (Rect.unit (s := S4) off S1.size p)).squeeze S_ squeezes_S1_S_).sem = recvS s := by
  subst h; exact recvSem_lit s
theorem w0Sem_eq : ((cc0_scratch5.slice (Rect.unit (s := S2) ![0] S1.size inb_S2_S1_0)).squeeze S_ squeezes_S1_S_).sem = w0S := by decide
theorem w1Sem_eq : ((cc0_scratch5.slice (Rect.unit (s := S2) ![1] S1.size inb_S2_S1_1)).squeeze S_ squeezes_S1_S_).sem = w1S := by decide

abbrev barCell (c : Dev nD) : GSem nD τ sig := ((c : Thread nD τ), .reg barS)
abbrev sendCell (c : Dev nD) (k : Fin 3) : GSem nD τ sig := ((c : Thread nD τ), .dma (sendS k))
abbrev recvCell (c s : Dev nD) : GSem nD τ sig := ((c : Thread nD τ), .dma (recvS s))
abbrev w0Cell (c : Dev nD) : GSem nD τ sig := ((c : Thread nD τ), .dma w0S)
abbrev w1Cell (c : Dev nD) : GSem nD τ sig := ((c : Thread nD τ), .dma w1S)

/-- What a transfer of one tile credits. -/
abbrev N : ℕ := (cmT 0).view.dmaCredit
theorem N_pos : 0 < N := View.dmaCredit_pos _ (by decide)

/-! ## What the points-tos are -/

/-- Tile `k` of the send buffer of `c`, the landing tile for `s` on `c`, tile `k` of the weight buffer of `c`, row block
    `j` of the weight matrix of `c`. -/
def stPts (c : Dev nD) (k : ℕ) (f : (cc0_scratch0 : Ref sig .tc).ty.Contents (Elt F)) : sProp 𝕄 :=
  ((c : Thread nD τ).loc cc0_scratch0) ↦[slot4 k]{fullShare} f
def cmPts (c s : Dev nD) (f : (cc0_scratch1 : Ref sig .tc).ty.Contents (Elt F)) : sProp 𝕄 :=
  ((c : Thread nD τ).loc cc0_scratch1) ↦[slot4 s.val]{fullShare} f
def wbPts (c : Dev nD) (k : ℕ) (f : (cc0_scratch2 : Ref sig .tc).ty.Contents (Elt F)) : sProp 𝕄 :=
  ((c : Thread nD τ).loc cc0_scratch2) ↦[slot2 k]{fullShare} f
def wrPts (c j : Dev nD) : sProp 𝕄 :=
  ((c : Thread nD τ).loc main_arg1) ↦[rows4 j.val]{fullShare} (wmat m ρ c)

omit [FloatOps F] in
instance stPts_storable (c : Dev nD) (k : ℕ) (f) : BI.Storable (upEmb : UEmb _ 𝕄) (stPts (F := F) c k f) := by unfold stPts; infer_instance
omit [FloatOps F] in
instance cmPts_storable (c s : Dev nD) (f) : BI.Storable (upEmb : UEmb _ 𝕄) (cmPts (F := F) c s f) := by unfold cmPts; infer_instance

/-! ## The schedule -/

/-- The signal of `p` to `c` hands over the landing tile `p` keeps for `c`, and that `p` is at round 0 of the receive cell
    `c` will credit. -/
def barPay (c p : Dev nD) : sProp 𝕄 := iprop((∃ f, cmPts p c f) ∗ reached ER (recvCell p c) 0)
/-- The credit of a send semaphore hands the send tile back. -/
def sendPay (c : Dev nD) (k : ℕ) : sProp 𝕄 := iprop(∃ f, stPts c k f)
/-- The credit of the receive semaphore of `s` hands over the landing tile, filled with what `s` sent. -/
def recvPay (c s : Dev nD) : sProp 𝕄 :=
  iprop(∃ f, cmPts c s ((cmT s).view.write (Elt F) f (sentTo (xstg m ρ s) c) Finset.univ))

instance barPay_storable (c p : Dev nD) : BI.Storable (upEmb : UEmb _ 𝕄) (barPay (F := F) c p) := by unfold barPay; infer_instance
instance sendPay_storable (c : Dev nD) (k : ℕ) : BI.Storable (upEmb : UEmb _ 𝕄) (sendPay (F := F) c k) := by unfold sendPay; infer_instance
instance recvPay_storable (c s : Dev nD) : BI.Storable (upEmb : UEmb _ 𝕄) (recvPay m ρ c s) := by unfold recvPay; infer_instance

/-- The duties of a cell of device `c`. -/
def dutiesOf (c : Dev nD) : SemLoc sig → Finset (Fin 4)
  | .reg _ => {1, 2, 3}
  | .dma q => if 2 ≤ q.val ∧ q.val < 9 ∧ q.val ≠ 5 + c.val then {0} else ∅
def amountOf : SemLoc sig → ℕ
  | .reg _ => 1
  | .dma _ => N
def payOf (c : Dev nD) (d : Fin 4) : SemLoc sig → sProp 𝕄
  | .reg _ => barPay c (nx d c)
  | .dma q => if q.val < 5 then sendPay c (q.val - 1) else recvPay m ρ c ⟨(q.val - 5) % 4, Nat.mod_lt _ (by decide)⟩

def Rd : Rounds.Schedule (GSem nD τ sig) (Fin 4) 𝕄 where
  duties g r := if r = 0 ∧ g.1.2 = .tc then dutiesOf g.1.1 g.2 else ∅
  unitless _ := False
  amount g _ _ := amountOf g.2
  payload g _ d := payOf m ρ g.1.1 d g.2
  amount_pos g _ _ _ := by
    show 0 < amountOf g.2
    cases g.2
    · exact Nat.one_pos
    · exact N_pos

instance Rd_payload_storable (g : GSem nD τ sig) (r : ℕ) (d : Fin 4) : BI.Storable (upEmb : UEmb _ 𝕄) ((Rd (F := F) m ρ).payload g r d) := by
  show BI.Storable upEmb (payOf m ρ g.1.1 d g.2)
  cases g.2
  · unfold payOf; infer_instance
  · unfold payOf; dsimp only; split <;> infer_instance

section Sched
variable (c s : Dev nD) (k : Fin 3) (d : Fin 4)

theorem duties_bar : (Rd (F := F) m ρ).duties (barCell c) 0 = {1, 2, 3} := by dsimp only [Rd]; exact if_pos ⟨rfl, rfl⟩
theorem duties_send : (Rd (F := F) m ρ).duties (sendCell c k) 0 = {0} := by
  dsimp only [Rd]; rw [if_pos ⟨rfl, rfl⟩]; revert c k; decide
theorem duties_recv (h : s ≠ c) : (Rd (F := F) m ρ).duties (recvCell c s) 0 = {0} := by
  dsimp only [Rd]; rw [if_pos ⟨rfl, rfl⟩]; revert c s; decide
theorem duties_self : (Rd (F := F) m ρ).duties (recvCell c c) 0 = ∅ := by
  dsimp only [Rd]; rw [if_pos ⟨rfl, rfl⟩]; revert c; decide
theorem duties_later (g : GSem nD τ sig) : ∀ r, 1 ≤ r → (Rd (F := F) m ρ).duties g r = ∅ :=
  fun r hr => by dsimp only [Rd]; rw [if_neg fun h => by omega]
theorem duties_self_all : ∀ r, 0 ≤ r → (Rd (F := F) m ρ).duties (recvCell c c) r = ∅ := fun r _ => by
  rcases Nat.eq_zero_or_pos r with rfl | h
  · exact duties_self m ρ c
  · exact duties_later m ρ _ r h

theorem amount_bar : (Rd (F := F) m ρ).amount (barCell c) 0 d = 1 := rfl
theorem amount_send : (Rd (F := F) m ρ).amount (sendCell c k) 0 d = N := rfl
theorem amount_recv : (Rd (F := F) m ρ).amount (recvCell c s) 0 d = N := rfl

theorem expect_bar : (Rd (F := F) m ρ).expect (barCell c) 0 = 3 := by
  unfold Schedule.expect Schedule.amountOf
  rw [duties_bar, Finset.sum_congr rfl fun d _ => amount_bar m ρ c d, Finset.sum_const]; decide
theorem expect_send : (Rd (F := F) m ρ).expect (sendCell c k) 0 = N := by
  unfold Schedule.expect Schedule.amountOf; rw [duties_send, Finset.sum_singleton, amount_send]
theorem expect_recv (h : s ≠ c) : (Rd (F := F) m ρ).expect (recvCell c s) 0 = N := by
  unfold Schedule.expect Schedule.amountOf; rw [duties_recv m ρ c s h, Finset.sum_singleton, amount_recv]

theorem payload_bar : (Rd (F := F) m ρ).payload (barCell c) 0 d = barPay c (nx d c) := rfl
theorem payload_send : (Rd (F := F) m ρ).payload (sendCell c k) 0 d = sendPay c (k.val + 1) := by fin_cases k <;> rfl
theorem payload_recv : (Rd (F := F) m ρ).payload (recvCell c s) 0 d = recvPay m ρ c s := by fin_cases s <;> rfl

/-- What the barrier wait brings: the three peers' landing tiles for `c`. -/
theorem rest_bar : bigSep ((Rd (F := F) m ρ).duties (barCell c) 0 \ ∅) (fun d => (Rd (F := F) m ρ).payload (barCell c) 0 d)
    = iprop(barPay c (nx 1 c) ∗ barPay c (nx 2 c) ∗ barPay c (nx 3 c)) := by
  rw [Finset.sdiff_empty, duties_bar, bigSep_eq_bigSepL_of_eq [1, 2, 3] (by decide) (by decide), bigSepL_cons_cons, bigSepL_cons_cons, bigSepL_singleton]
  rfl
theorem rest_send : bigSep ((Rd (F := F) m ρ).duties (sendCell c k) 0 \ ∅) (fun d => (Rd (F := F) m ρ).payload (sendCell c k) 0 d) = sendPay c (k.val + 1) := by
  rw [Finset.sdiff_empty, duties_send, bigSep_singleton, payload_send]
theorem rest_recv (h : s ≠ c) : bigSep ((Rd (F := F) m ρ).duties (recvCell c s) 0 \ ∅) (fun d => (Rd (F := F) m ρ).payload (recvCell c s) 0 d) = recvPay m ρ c s := by
  rw [Finset.sdiff_empty, duties_recv m ρ c s h, bigSep_singleton, payload_recv]

end Sched

/-! ## What each device owes at launch; the levels -/

/-- The credit of one transfer from `c` to the device `k` places on. -/
abbrev owR (k : Fin 4) (c : Dev nD) : CellTallies nD τ sig Unit := tallyAt (recvCell (nx k c) c) () N
/-- One signal from `c` to the device `k` places on. -/
abbrev owB (k : Fin 4) (c : Dev nD) : CellTallies nD τ sig Unit := tallyAt (barCell (nx k c)) () 1

/-- Device `c` owes each other device one transfer and one signal — summed so that each signal, then each transfer, in
    program order, takes the last summand. -/
def OR (c : Dev nD) : CellTallies nD τ sig Unit := owR 3 c + owR 2 c + owR 1 c
def O₀ (c : Dev nD) : CellTallies nD τ sig Unit := OR c + owB 3 c + owB 2 c + owB 1 c

def L (g : GSem nD τ sig) : Finset Unit := if g.1.2 = .tc then {()} else ∅
/-- Barrier cells at 1, receive cells at 2, everything else at 0. -/
def lvS : SemLoc sig → ℕ
  | .reg _ => 1
  | .dma q => if 5 ≤ q.val ∧ q.val < 9 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) : lv (recvCell c s) () = 2 := by fin_cases s <;> rfl
theorem lv_bar (c : Dev nD) : lv (barCell c) () = 1 := rfl

theorem OR_pos {c : Dev nD} {g : GSem nD τ sig} {u : Unit} (h : 0 < OR c g u) : ∃ k, g = recvCell (nx k c) c := by
  unfold OR at h
  simp only [Pi.add_apply, Finsupp.add_apply, tallyAt_apply] at h
  by_contra hn
  rw [not_exists] at hn
  rw [if_neg (fun h' => hn 3 h'.1), if_neg (fun h' => hn 2 h'.1), if_neg (fun h' => hn 1 h'.1)] at h
  exact Nat.lt_irrefl 0 h

theorem O₀_pos {c : Dev nD} {g : GSem nD τ sig} {u : Unit} (h : 0 < O₀ c g u) :
    (∃ k, g = recvCell (nx k c) c) ∨ ∃ k, g = barCell (nx k c) := by
  unfold O₀ at h
  simp only [Pi.add_apply, Finsupp.add_apply, tallyAt_apply] at h
  by_contra hn
  rw [not_or, not_exists, not_exists] at hn
  have h0 : ¬ 0 < OR c g u := fun h => by obtain ⟨k, hk⟩ := OR_pos h; exact hn.1 k hk
  rw [if_neg (fun h' => hn.2 3 h'.1), if_neg (fun h' => hn.2 2 h'.1), if_neg (fun h' => hn.2 1 h'.1)] at h
  exact h0 h

/-- The staging waits happen owing everything or nothing: a staging cell is below every cell owed to. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]
        show lvS (.dma q) ≤ 0
        unfold lvS; dsimp only; rw [if_neg (by omega)])
      (fun g u hg => by
        rcases O₀_pos hg with ⟨k, rfl⟩ | ⟨k, rfl⟩
        · rw [show lv (recvCell (nx k c) c) u = 2 from lv_recv _ _]; decide
        · rw [show lv (barCell (nx k c)) u = 1 from rfl]; decide)
  · rw [MayWait_zero]; iintro -; iempintro

/-- At its barrier wait a device owes its three transfers: receive cells, above its barrier cell. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact le_rfl)
    (fun g u hg => by obtain ⟨k, rfl⟩ := OR_pos hg; rw [show lv (recvCell (nx k c) c) u = 2 from lv_recv _ _]; decide)

/-! ## What a device starts its body from and ends it with -/

/-- The cells of a device under the schedule: its barrier cell, its three send cells, its four receive cells. -/
abbrev csem : Fin 8 → SemLoc sig := fun
  | 0 => .reg barS | 1 => .dma (sendS 0) | 2 => .dma (sendS 1) | 3 => .dma (sendS 2)
  | 4 => .dma (recvS 0) | 5 => .dma (recvS 1) | 6 => .dma (recvS 2) | 7 => .dma (recvS 3)
abbrev kcell (ck : Dev nD × Fin 8) : GSem nD τ sig := ((ck.1 : Thread nD τ), csem ck.2)

/-- Every cell's invariant, under the names `K` they were allocated at, and that every cell is at round 0. -/
def records (K : Dev nD × Fin 8 → ℕ) : sProp 𝕄 :=
  iprop((bigSep Finset.univ fun ck : Dev nD × Fin 8 => cellInv ER (Rd m ρ) (K ck) (kcell ck))
    ∗ bigSep Finset.univ fun ck : Dev nD × Fin 8 => reached ER (kcell ck) 0)

instance records_persistent (K : Dev nD × Fin 8 → ℕ) : BI.Persistent (records m ρ K) := by unfold records; infer_instance

set_option backward.proofsInPublic true in
/-- The place of a send cell, of a receive cell, among the cells of its device. -/
def kS (k : Fin 3) : Fin 8 := ⟨k.val + 1, by have := k.isLt; omega⟩
set_option backward.proofsInPublic true in
def kR (s : Dev nD) : Fin 8 := ⟨s.val + 4, by have : s.val < 4 := s.isLt; omega⟩

theorem csem_S (k : Fin 3) : csem (kS k) = .dma (sendS k) := by revert k; decide
theorem csem_R (s : Dev nD) : csem (kR s) = .dma (recvS s) := by revert s; decide

theorem inv_at (K : Dev nD × Fin 8 → ℕ) (ck : Dev nD × Fin 8) : records m ρ K ⊢ cellInv ER (Rd m ρ) (K ck) (kcell ck) := by
  unfold records
  exact sep_elim_left.trans (bigSep_elim (Finset.mem_univ ck))
theorem reached_at (K : Dev nD × Fin 8 → ℕ) (ck : Dev nD × Fin 8) : records m ρ K ⊢ reached ER (kcell ck) 0 := by
  unfold records
  exact sep_elim_right.trans (bigSep_elim (Finset.mem_univ ck))

theorem inv_bar (K : Dev nD × Fin 8 → ℕ) (c : Dev nD) : records m ρ K ⊢ cellInv ER (Rd m ρ) (K (c, 0)) (barCell c) := inv_at m ρ K (c, 0)
theorem inv_send (K : Dev nD × Fin 8 → ℕ) (c : Dev nD) (k : Fin 3) : records m ρ K ⊢ cellInv ER (Rd m ρ) (K (c, kS k)) (sendCell c k) := by
  have := inv_at m ρ K (c, kS k); rwa [show kcell (c, kS k) = sendCell c k from congrArg _ (csem_S k)] at this
theorem inv_recv (K : Dev nD × Fin 8 → ℕ) (c s : Dev nD) : records m ρ K ⊢ cellInv ER (Rd m ρ) (K (c, kR s)) (recvCell c s) := by
  have := inv_at m ρ K (c, kR s); rwa [show kcell (c, kR s) = recvCell c s from congrArg _ (csem_R s)] at this
theorem reached_bar (K : Dev nD × Fin 8 → ℕ) (c : Dev nD) : records m ρ K ⊢ reached ER (barCell c) 0 := reached_at m ρ K (c, 0)
theorem reached_send (K : Dev nD × Fin 8 → ℕ) (c : Dev nD) (k : Fin 3) : records m ρ K ⊢ reached ER (sendCell c k) 0 := by
  have := reached_at m ρ K (c, kS k); rwa [show kcell (c, kS k) = sendCell c k from congrArg _ (csem_S k)] at this
theorem reached_recv (K : Dev nD × Fin 8 → ℕ) (c s : Dev nD) : records m ρ K ⊢ reached ER (recvCell c s) 0 := by
  have := reached_at m ρ K (c, kR s); rwa [show kcell (c, kR s) = recvCell c s from congrArg _ (csem_R s)] at this

/-- The positions of a device in its own cells. -/
def positions (c : Dev nD) : sProp 𝕄 :=
  iprop(atPos ER (barCell c) 0 ∅ 0 ∗ (atPos ER (sendCell c 0) 0 ∅ 0 ∗ atPos ER (sendCell c 1) 0 ∅ 0 ∗ atPos ER (sendCell c 2) 0 ∅ 0)
    ∗ atPos ER (recvCell c c) 0 ∅ 0 ∗ atPos ER (recvCell c (nx 1 c)) 0 ∅ 0 ∗ atPos ER (recvCell c (nx 2 c)) 0 ∅ 0 ∗ atPos ER (recvCell c (nx 3 c)) 0 ∅ 0)

/-- The tokens of the duties a device pays: its signals, its send semaphores, the receive semaphores of its peers. -/
def payToks (c : Dev nD) : sProp 𝕄 :=
  iprop((dutyTok ER (barCell (nx 1 c)) 0 3 ∗ dutyTok ER (barCell (nx 2 c)) 0 2 ∗ dutyTok ER (barCell (nx 3 c)) 0 1)
    ∗ (dutyTok ER (sendCell c 0) 0 0 ∗ dutyTok ER (sendCell c 1) 0 0 ∗ dutyTok ER (sendCell c 2) 0 0)
    ∗ dutyTok ER (recvCell (nx 1 c) c) 0 0 ∗ dutyTok ER (recvCell (nx 2 c) c) 0 0 ∗ dutyTok ER (recvCell (nx 3 c) c) 0 0)

/-- The credit a device may draw on: three signals, three tiles. -/
def credits (c : Dev nD) : sProp 𝕄 :=
  iprop(cred (tallyAt (barCell c) () 3) ∗ cred (tallyAt (recvCell c (nx 1 c)) () N) ∗ cred (tallyAt (recvCell c (nx 2 c)) () N)
    ∗ cred (tallyAt (recvCell c (nx 3 c)) () N))

/-- The two weight semaphores at zero. -/
def wSems (c : Dev nD) : sProp 𝕄 := iprop(semVal (w0Cell c) 0 ∗ semVal (w1Cell c) 0)

/-- What the launch gives a device's body beside its scratch buffers. -/
def ghost (K : Dev nD × Fin 8 → ℕ) (c : Dev nD) : sProp 𝕄 := iprop(records m ρ K ∗ positions c ∗ payToks c ∗ wSems c)
def start (c : Dev nD) : sProp 𝕄 :=
  iprop((∃ K, ghost m ρ K c) ∗ credits c ∗ levAts L lv ∗ (((c : Thread nD τ).loc main_arg1) ↦{fullShare} wmat m ρ c))

/-- The three scratch buffers, holding anything. -/
def scratch (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f)
    ∗ (∃ f : (cc0_scratch2 : Ref sig .tc).ty.Contents (Elt F), ((c : Thread nD τ).loc cc0_scratch2) ↦{fullShare} f))

def Φ₀ (c : Dev nD) : sProp 𝕄 := iprop(start m ρ c ∗ scratch c)

/-- Every semaphore of the device the body used, back at zero. -/
def semsBack (c : Dev nD) : sProp 𝕄 :=
  iprop(semVal (barCell c) 0 ∗ (semVal (sendCell c 0) 0 ∗ semVal (sendCell c 1) 0 ∗ semVal (sendCell c 2) 0)
    ∗ (semVal (recvCell c c) 0 ∗ semVal (recvCell c (nx 1 c)) 0 ∗ semVal (recvCell c (nx 2 c)) 0 ∗ semVal (recvCell c (nx 3 c)) 0)
    ∗ wSems c)
/-- After the body: the semaphores at zero, the weight matrix unchanged, the scratch buffers holding anything. -/
def Φ₁ (c : Dev nD) : sProp 𝕄 :=
  iprop(semsBack c ∗ (((c : Thread nD τ).loc main_arg1) ↦{fullShare} wmat m ρ c) ∗ scratch c)

/-- What device `c`'s result ends holding. -/
def outAt (c : Dev nD) : (cc0_stg1_0 : Ref sig .tc).ty.Contents (Elt F) := outVal (xstg m ρ) (wmat m ρ c) c

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.AllToAll

end

end
-- ==== Proof.Steps.lean ====
/- One lemma per kind of effect of the kernel, in the terms of the protocol: a signal to a peer, the barrier wait, a tile
   sent, a tile's arrival, a send tile's return, a row block of the weight matrix fetched, and the loads and stores. Each
   is stated for any device, peer, tile, and for any continuation. -/
module

public import proofs.«01_k».proof.Proof.Protocol

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 8 → ℕ)

/-- What device `c`'s core owes, whatever it has waited on. -/
def ow (c : Dev nD) (O : CellTallies nD τ sig Unit) : sProp 𝕄 := iprop(∃ W : Waits sig Unit, owes (c : Thread nD τ) O W)

/-- Program `p` runs on device `c`'s core to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

/-- A signal to the device `k` places on hands it the landing tile kept for it. -/
theorem signal_peer (c n : Dev nD) (k k' : Fin 4) (hn : n = nx k c) (hk : nx k' (nx k c) = c) (hd : k' ∈ ({1, 2, 3} : Finset (Fin 4)))
    (O : CellTallies nD τ sig Unit)
    {α : Type} {Q : α → sProp 𝕄}
    {kk : PUnit → Prog (TpuEff nD τ sig (Elt F) Λ₀ .tc) α} {a : Int} (ha : a = (1 : ℕ)) :
    iprop(records m ρ K ∗ ow c (O + owB k c) ∗ dutyTok ER (barCell (nx k c)) 0 k' ∗ (∃ f, cmPts c (nx k c) f))
      ⊢ iprop((ow c O -∗ runs c (kk ⟨⟩) Q)
          -∗ runs c (.op (.semSignal (n, Proc.tc) barS a) kk) Q) := by
  subst hn ha
  unfold ow
  iintro ⟨#HR, ⟨%W, HO⟩, Ht, Hp⟩ Hk
  iapply (Rounds.wp_signal 𝒱₀ ER (Rd m ρ) (c : Thread nD τ) none (dst := (nx k c : Thread nD τ)) (κ := K (nx k c, 0))
      (d := k') (r := 0) (by rw [duties_bar]; exact hd) (amount_bar m ρ (nx k c) k') () (O₀ := O + owB k c) O rfl (W := W))
    $$ [HO Ht Hp]
  · isplitr; · iapply (inv_bar m ρ K (nx k c)); iexact HR
    isplitl [HO]; · iexact HO
    isplitl [Ht]; · iexact Ht
    isplitl [Hp]
    · rw [payload_bar]; unfold barPay; rw [hk]
      isplitl [Hp]; · iexact Hp
      iapply (reached_recv m ρ K c (nx k c)); iexact HR
    iapply (reached_bar m ρ K (nx k c)); iexact HR
  iintro HO
  iapply Hk
  iexists W; iexact HO

/-- The barrier wait brings the landing tiles the three peers keep for `c`; the barrier cell is done with. -/
theorem bar_wait (c : Dev nD) {α : Type} {Q : α → sProp 𝕄}
    {kk : PUnit → Prog (TpuEff nD τ sig (Elt F) Λ₀ .tc) α}
    {a : Int} (ha : a = (3 : ℕ)) :
    iprop(records m ρ K ∗ levAts L lv ∗ cred (tallyAt (barCell c) () 3) ∗ ow c (OR c) ∗ atPos ER (barCell c) 0 ∅ 0)
      ⊢ iprop((iprop(ow c (OR c) ∗ semVal (barCell c) 0 ∗ (∃ f, cmPts (nx 1 c) c f) ∗ (∃ f, cmPts (nx 2 c) c f) ∗ (∃ f, cmPts (nx 3 c) c f))
            -∗ runs c (kk ⟨⟩) Q)
          -∗ runs c (.op (.semWait barS a) kk) Q) := by
  subst ha
  unfold ow
  iintro ⟨#HR, #Hlev, Hc, ⟨%W, HO⟩, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := OR c) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  imod (Rounds.cell_close ER (Rd m ρ) (Set.mem_univ (K (c, 0))) (fun h => h) (R := 0 + 1) (duties_later m ρ (barCell c))) $$ [Hat] with Hz
  · isplitr; · iapply (inv_bar m ρ K c); iexact HR
    iexact Hat
  ihave Hp := (Entails.of_eq (rest_bar m ρ c)) $$ Hpay
  unfold barPay
  icases Hp with ⟨⟨H1, -⟩, ⟨H2, -⟩, ⟨H3, -⟩⟩
  iapply Hk
  isplitl [HO]; · iexists _; iexact HO
  isplitl [Hz]; · iexact Hz
  isplitl [H1]; · iexact H1
  isplitl [H2] <;> iassumption

/-- The tile of the send buffer at place `k`, holding what is meant for device `j`. -/
def stFull (c : Dev nD) (k : ℕ) (j : Dev nD) : sProp 𝕄 :=
  iprop(∃ f, ⌜∀ (off : Fin 3 → ℕ) (p : ∀ a, off a + S1x512x512.size a ≤ S4x512x512.size a), off = ![k, 0, 0] →
      (stT off p).view.read (Elt F) f = sentTo (xstg m ρ c) j⌝ ∗ stPts c k f)

theorem N_st {off : Fin 3 → ℕ} (p : ∀ a, off a + S1x512x512.size a ≤ S4x512x512.size a) : (stT off p).view.dmaCredit = N := rfl
theorem N_cm (s : Dev nD) : (cmT s).view.dmaCredit = N := rfl

/-- A tile sent to the device `k` places on: its transfer is no longer owed; the send cell's credit is there to wait for. -/
theorem send_tile (c n : Dev nD) (k : Fin 4) (i : Fin 3) (hn : n = nx k c) (hne : c ≠ nx k c)
    (O : CellTallies nD τ sig Unit) {off : Fin 3 → ℕ} (h : off = ![i.val + 1, 0, 0])
    (p : ∀ a, off a + S1x512x512.size a ≤ S4x512x512.size a) {sS rS : DmaSem sig} (hs : sS = sendS i) (hr : rS = recvS c)
    {hsc : (cmT c : Memref sig (Dev.tc n : Thread nD τ).2.kind .vmem S512x512 .bf16).view.ref.isScScratch = false}
    {hsrc : (stT off p).view.WordExact} {hdst : (cmT c).view.WordExact}
    {hsem : DmaTarget.Typed .vmem (.dma rS) (.remote (Dev.tc n : Thread nD τ) (cmT c : Memref sig (Dev.tc n : Thread nD τ).2.kind .vmem S512x512 .bf16) (.dma sS) hsc)}
    {α : Type} {Q : α → sProp 𝕄} {kk : PUnit → Prog (TpuEff nD τ sig (Elt F) Λ₀ .tc) α} :
    iprop(records m ρ K ∗ stFull m ρ c (i.val + 1) (nx k c) ∗ (∃ f, cmPts (nx k c) c f) ∗ ow c (O + owR k c)
        ∗ dutyTok ER (sendCell c i) 0 0 ∗ dutyTok ER (recvCell (nx k c) c) 0 0)
      ⊢ iprop((iprop(cred (tallyAt (sendCell c i) () N) ∗ ow c O) -∗ runs c (kk ⟨⟩) Q)
          -∗ runs c (.op (.enqueueDma (stT off p) (.remote (Dev.tc n : Thread nD τ) (cmT c) (.dma sS) hsc) (.dma rS) hsrc hdst hsem) kk) Q) := by
  subst hn hs hr
  unfold ow stFull
  iintro ⟨#HR, ⟨%fs, %hfs, Hst⟩, ⟨%fd, Hcm⟩, ⟨%W, HO⟩, Ht, Ht'⟩ Hk
  iapply (Rounds.wp_send_pointsTo 𝒱₀ ER (Rd m ρ) (c : Thread nD τ) none (c' := (nx k c : Thread nD τ)) (src := stT off p) (dst := cmT c)
      (sS := .dma (sendS i)) (sem := .dma (recvS c)) (κ₁ := K (c, kS i)) (κ₂ := K (nx k c, kR c))
      (r₁ := 0) (r₂ := 0) (d₁ := 0) (d₂ := 0) (q := fullShare) (fs := fs) (fd := fd)
      (by rw [duties_send]; exact Finset.mem_singleton_self _) (by rw [duties_recv m ρ _ _ hne]; exact Finset.mem_singleton_self _)
      () () N (N_cm c) (amount_send m ρ c i 0) (amount_recv m ρ (nx k c) c 0) O rfl (W := W)
      (by rw [payload_send]; unfold sendPay stPts; rw [stT_set (i.val + 1) h p]; iintro H; iexists fs; iexact H)
      (by rw [payload_recv]; unfold recvPay cmPts; rw [hfs off p h, cmT_set]; iintro H; iexists fd; iexact H))
    $$ [HO Hst Hcm Ht Ht']
  · isplitr; · iapply (inv_send m ρ K c i); iexact HR
    isplitr; · iapply (inv_recv m ρ K (nx k c) c); iexact HR
    isplitl [Hst]; · rw [stT_set (i.val + 1) h p]; unfold stPts; iexact Hst
    isplitl [Hcm]; · rw [cmT_set]; unfold cmPts; iexact Hcm
    isplitl [HO]; · iexact HO
    isplitl [Ht]; · iexact Ht
    isplitr; · iapply (reached_send m ρ K c i); iexact HR
    isplitl [Ht']; · iexact Ht'
    iapply (reached_recv m ρ K (nx k c) c); iexact HR
  iintro ⟨Hc, HO⟩
  iapply Hk
  isplitl [Hc]; · iexact Hc
  iexists W; iexact HO

/-- The wait for what device `s` sends brings the landing tile filled; the receive cell is done with. -/
theorem recv_wait (c s : Dev nD) (hs : s ≠ c) {q : DmaSem sig} (hq : q = recvS s) {sp sp' : Space} {s₁ s₂ : Shape} {e₁ e₂ : EltTy}
    {srcw : Memref sig .tc sp s₁ e₁} {dstw : Memref sig .tc sp' s₂ e₂} (hN : dstw.view.dmaCredit = N)
    {hsrc : srcw.view.WordExact} {hdst : dstw.view.WordExact}
    {α : Type} {Q : α → sProp 𝕄} {kk : PUnit → Prog (TpuEff nD τ sig (Elt F) Λ₀ .tc) α} :
    iprop(records m ρ K ∗ cred (tallyAt (recvCell c s) () N) ∗ ow c 0 ∗ atPos ER (recvCell c s) 0 ∅ 0)
      ⊢ iprop((iprop(ow c 0 ∗ semVal (recvCell c s) 0 ∗ recvPay m ρ c s) -∗ runs c (kk ⟨⟩) Q)
          -∗ runs c (.op (.waitDma2 q srcw dstw hsrc hdst) kk) Q) := by
  subst hq
  unfold ow
  iintro ⟨#HR, Hc, ⟨%W, HO⟩, Hat⟩ Hk
  iapply (Rounds.wp_wait_rest_token 𝒱₀ ER (Rd m ρ) (c : Thread nD τ) none (κ := K (c, kR s)) (k' := N) (sm := .dma (recvS s))
      (by rw [← hN]; exact wpE_waitDma2_eq 𝒱₀ (c : Thread nD τ) none Set.univ) (Set.mem_univ _) () (O := 0) (W := W) (R := 0) (m := 0) (T := ∅)
      (by rw [expect_recv m ρ c s hs, Nat.zero_add])) $$ [Hc HO Hat]
  · isplitr; · iapply (inv_recv m ρ K c s); iexact HR
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, kR s))) (fun h => h) (R := 0 + 1) (duties_later m ρ (recvCell c s))) $$ [Hat] with Hz
  · isplitr; · iapply (inv_recv m ρ K c s); iexact HR
    iexact Hat
  ihave Hp := (Entails.of_eq (rest_recv m ρ c s hs)) $$ Hpay
  iapply Hk
  isplitl [HO]; · iexists _; iexact HO
  isplitl [Hz] <;> iassumption

/-- The wait for the return of send tile `i + 1`; the send cell is done with. -/
theorem send_wait (c : Dev nD) (i : Fin 3) {q : DmaSem sig} (hq : q = sendS i) {sp sp' : Space} {s₁ s₂ : Shape} {e₁ e₂ : EltTy}
    {srcw : Memref sig .tc sp s₁ e₁} {dstw : Memref sig .tc sp' s₂ e₂} (hN : dstw.view.dmaCredit = N)
    {hsrc : srcw.view.WordExact} {hdst : dstw.view.WordExact}
    {α : Type} {Q : α → sProp 𝕄} {kk : PUnit → Prog (TpuEff nD τ sig (Elt F) Λ₀ .tc) α} :
    iprop(records m ρ K ∗ cred (tallyAt (sendCell c i) () N) ∗ ow c 0 ∗ atPos ER (sendCell c i) 0 ∅ 0)
      ⊢ iprop((iprop(ow c 0 ∗ semVal (sendCell c i) 0 ∗ sendPay c (i.val + 1)) -∗ runs c (kk ⟨⟩) Q)
          -∗ runs c (.op (.waitDma2 q srcw dstw hsrc hdst) kk) Q) := by
  subst hq
  unfold ow
  iintro ⟨#HR, Hc, ⟨%W, HO⟩, Hat⟩ Hk
  iapply (Rounds.wp_wait_rest_token 𝒱₀ ER (Rd m ρ) (c : Thread nD τ) none (κ := K (c, kS i)) (k' := N) (sm := .dma (sendS i))
      (by rw [← hN]; exact wpE_waitDma2_eq 𝒱₀ (c : Thread nD τ) none Set.univ) (Set.mem_univ _) () (O := 0) (W := W) (R := 0) (m := 0) (T := ∅)
      (by rw [expect_send m ρ c i, Nat.zero_add])) $$ [Hc HO Hat]
  · isplitr; · iapply (inv_send m ρ K c i); iexact HR
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, kS i))) (fun h => h) (R := 0 + 1) (duties_later m ρ (sendCell c i))) $$ [Hat] with Hz
  · isplitr; · iapply (inv_send m ρ K c i); iexact HR
    iexact Hat
  ihave Hp := (Entails.of_eq (rest_send m ρ c i)) $$ Hpay
  iapply Hk
  isplitl [HO]; · iexists _; iexact HO
  isplitl [Hz] <;> iassumption

/-! ## The weight tiles -/

/-- What a transfer of a row block of the weight matrix credits. -/
abbrev Nw : ℕ := wb0.view.dmaCredit
theorem Nw_pos : 0 < Nw := View.dmaCredit_pos _ (by decide)

/-- Tile `k` of the weight buffer, holding row block `j` of the weight matrix. -/
def wbFull (c : Dev nD) (k : ℕ) (j : Dev nD) : sProp 𝕄 :=
  iprop(∃ f, ⌜∀ (off : Fin 3 → ℕ) (p : ∀ a, off a + S1x512x2048.size a ≤ S2x512x2048.size a), off = ![k, 0, 0] →
      bM.view.readAt (Elt F) (Rect.unit (s := S2x512x2048) off S1x512x2048.size p).toLoadRect f = leadW (wblk (wmat m ρ c) j)⌝ ∗ wbPts c k f)

/-- Row block `j` on its way into tile `k`, its arrival counted on semaphore `q`. -/
def wFlight (c : Dev nD) (q : DmaSem sig) (k : ℕ) (j : Dev nD) : sProp 𝕄 :=
  Transfers.Flight countersEmb (c : Thread nD τ) (.dma q) () Nw iprop(wbFull m ρ c k j ∗ wrPts m ρ c j)

theorem N_wb {off : Fin 3 → ℕ} (p : ∀ a, off a + S1x512x2048.size a ≤ S2x512x2048.size a) : (wbT off p).view.dmaCredit = Nw := rfl

theorem wb_landed (c j : Dev nD) (k : ℕ) {offb : Fin 3 → ℕ} (hb : offb = ![k, 0, 0])
    (pb : ∀ a, offb a + S1x512x2048.size a ≤ S2x512x2048.size a) (f : (cc0_scratch2 : Ref sig .tc).ty.Contents (Elt F)) :
    iprop((((wbT offb pb).view.loc (c : Thread nD τ)) ↦[slot2 k]{fullShare}
            ((wbT offb pb).view.write (Elt F) f (ReadAs.same.apply ((wrT j).view.read (Elt F) (wmat m ρ c))) Finset.univ))
        ∗ ((wrT j).view.loc (c : Thread nD τ)) ↦[(wrT j).view.set]{fullShare} (wmat m ρ c))
      ⊢ (iprop(wbFull m ρ c k j ∗ wrPts m ρ c j) : sProp 𝕄) := by
  unfold wbFull wbPts wrPts
  rw [wrT_set]
  iintro ⟨Hb, Hw⟩
  isplitl [Hb]
  · iexists _
    isplitr
    rotate_left
    · iexact Hb
    · ipureintro
      intro off p h
      exact tile_load (b := cc0_scratch2) (h.trans hb.symm) pb p (fun _ => rfl) squeezes_S1x512x2048_S512x2048 wide_casts f _
  iexact Hw

/-- The fetch of row block `j` of the weight matrix into tile `k` of the weight buffer. -/
theorem w_fetch (c j : Dev nD) (k : ℕ) {q q' : DmaSem sig} (hq : q' = q) {off : Fin 2 → ℕ} (h : off = ![512 * j.val, 0])
    (p : ∀ a, off a + S512x2048.size a ≤ S2048x2048.size a) {offb : Fin 3 → ℕ} (hb : offb = ![k, 0, 0])
    (pb : ∀ a, offb a + S1x512x2048.size a ≤ S2x512x2048.size a)
    {hst : ∀ a, (Rect.unit (s := S2048x2048) off S512x2048.size p).stride a = 1}
    {hsrc : (wM.slice (Rect.unit (s := S2048x2048) off S512x2048.size p) hst).view.WordExact} {hdst : (wbT offb pb).view.WordExact}
    {hsem : DmaTarget.Typed .hbm (.dma q') (DmaTarget.here (nD := nD) (p := (Proc.tc : Proc τ)) (wbT offb pb))}
    {α : Type} {Q : α → sProp 𝕄} {kk : PUnit → Prog (TpuEff nD τ sig (Elt F) Λ₀ .tc) α} :
    iprop(wrPts m ρ c j ∗ (∃ f, wbPts c k f) ∗ semVal ((c : Thread nD τ), .dma q) 0)
      ⊢ iprop((wFlight m ρ c q k j -∗ runs c (kk ⟨⟩) Q)
          -∗ runs c (.op (.enqueueDma (wM.slice (Rect.unit (s := S2048x2048) off S512x2048.size p) hst) (.here (wbT offb pb)) (.dma q')
                hsrc hdst hsem) kk) Q) := by
  obtain rfl : off = k0_off1 j := h.trans (k0_off1_eq j).symm
  subst hq
  iintro ⟨Hw, ⟨%f, Hb⟩, Hv⟩ Hk
  iapply (Transfers.wp_dmaLocal countersEmb 𝒱₀ (c : Thread nD τ) none (src := wrT j) (dst := wbT offb pb) (via := .same) (sm := .dma q')
      (q := fullShare) (fs := wmat m ρ c) (Sd := slot2 k) (fd := f) () Nw (N_wb pb) Nw_pos (by rw [wbT_set k hb pb])) $$ [Hw Hb Hv]
  · isplitl [Hw]; · rw [wrT_set]; unfold wrPts; iexact Hw
    isplitl [Hb]; · unfold wbPts; iexact Hb
    iexact Hv
  iintro Hf
  iapply Hk
  unfold wFlight
  iapply (Transfers.Flight_mono countersEmb (c : Thread nD τ) (wb_landed m ρ c j k hb pb f)) $$ Hf

/-- The wait for a row block on its way: the weight tile full, the row block and the semaphore back. -/
theorem w_wait (c j : Dev nD) (k : ℕ) {q q' : DmaSem sig} (hq : q' = q) {sp sp' : Space} {s₁ s₂ : Shape} {e₁ e₂ : EltTy}
    {srcw : Memref sig .tc sp s₁ e₁} {dstw : Memref sig .tc sp' s₂ e₂} (hN : dstw.view.dmaCredit = Nw)
    {hsrc : srcw.view.WordExact} {hdst : dstw.view.WordExact}
    {α : Type} {Q : α → sProp 𝕄} {kk : PUnit → Prog (TpuEff nD τ sig (Elt F) Λ₀ .tc) α} :
    iprop(wFlight m ρ c q k j ∗ ow c 0)
      ⊢ iprop((iprop(ow c 0 ∗ wbFull m ρ c k j ∗ wrPts m ρ c j ∗ semVal ((c : Thread nD τ), .dma q) 0) -∗ runs c (kk ⟨⟩) Q)
          -∗ runs c (.op (.waitDma2 q' srcw dstw hsrc hdst) kk) Q) := by
  subst hq
  unfold ow wFlight
  iintro ⟨Hf, ⟨%W, HO⟩⟩ Hk
  iapply (Transfers.wp_waitLocal countersEmb 𝒱₀ (c : Thread nD τ) none () hN) $$ [Hf HO]
  · isplitl [Hf] <;> iassumption
  iintro ⟨⟨Hb, Hw⟩, Hv, HO⟩
  iapply Hk
  isplitl [HO]; · iexists _; iexact HO
  isplitl [Hb]; · iexact Hb
  isplitl [Hw] <;> iassumption

/-! ## The loads and stores -/

/-- The device's `x` in its staging buffer; what its result buffer holds. -/
def xPts (c : Dev nD) : sProp 𝕄 := ((c : Thread nD τ).loc cc0_stg0_0) ↦{fullShare} xstg m ρ c
def oPts (c : Dev nD) (f : (cc0_stg1_0 : Ref sig .tc).ty.Contents (Elt F)) : sProp 𝕄 := ((c : Thread nD τ).loc cc0_stg1_0) ↦{fullShare} f

/-- A load of `512` rows of `x` gives a row block. -/
theorem x_load (c j : Dev nD) {off : Fin 2 → ℕ} (h : off = ![512 * j.val, 0]) (p : ∀ a, off a + S512x512.size a ≤ S2048x512.size a)
    {hl : xM.view.LoadsAt (Rect.unit (s := S2048x512) off S512x512.size p).toLoadRect} {α : Type} {Q : α → sProp 𝕄}
    {kk : ((Rect.unit (s := S2048x512) off S512x512.size p).toLoadRect.shape.Idx → Elt F .f32) → Prog (TpuEff nD τ sig (Elt F) Λ₀ .tc) α} :
    xPts m ρ c ⊢ iprop((xPts m ρ c -∗ runs c (kk (xblk (xstg m ρ c) j)) Q)
      -∗ runs c (.op (.load xM (Rect.unit (s := S2048x512) off S512x512.size p).toLoadRect hl) kk) Q) := by
  unfold xPts
  rw [← load_x j h p (xstg m ρ c)]
  exact wp_load 𝒱₀ (c : Thread nD τ) none Set.univ (m := xM) (Finset.subset_univ _)

/-- A load of a tile of the send buffer, whatever it reads. -/
theorem st_load (c : Dev nD) (k : ℕ) {off : Fin 3 → ℕ} (h : off = ![k, 0, 0]) (p : ∀ a, off a + S1x512x512.size a ≤ S4x512x512.size a)
    {hl : sM.view.LoadsAt (Rect.unit (s := S4x512x512) off S1x512x512.size p).toLoadRect} {α : Type} {Q : α → sProp 𝕄}
    {kk : ((Rect.unit (s := S4x512x512) off S1x512x512.size p).toLoadRect.shape.Idx → Elt F .bf16) → Prog (TpuEff nD τ sig (Elt F) Λ₀ .tc) α} :
    iprop(∃ f, stPts c k f) ⊢ iprop((∀ v, (∃ f, stPts c k f) -∗ runs c (kk v) Q)
      -∗ runs c (.op (.load sM (Rect.unit (s := S4x512x512) off S1x512x512.size p).toLoadRect hl) kk) Q) := by
  unfold stPts
  iintro ⟨%f, H⟩ Hk
  iapply (wp_load 𝒱₀ (c : Thread nD τ) none Set.univ (m := sM) (r := (Rect.unit (s := S4x512x512) off S1x512x512.size p).toLoadRect) (S := slot4 k)
    (Memref.setOn_subset_of_access_subset (c : Thread nD τ) (by rw [View.set_slice_whole, rect_slot4 k h p]))) $$ H
  iintro H
  iapply Hk
  iexists f; iexact H

theorem narrow_casts : S1x512x512.ShapeCasts S512x512 := by decide

/-- The store of what is meant for device `j` over a tile of the send buffer. -/
theorem st_store (c j : Dev nD) (k : ℕ) {off : Fin 3 → ℕ} (h : off = ![k, 0, 0]) (p : ∀ a, off a + S1x512x512.size a ≤ S4x512x512.size a)
    {w : (Rect.unit (s := S4x512x512) off S1x512x512.size p).shape.Idx → Elt F .bf16} (hw : w = lead (sentTo (xstg m ρ c) j))
    {hx : (sM.access (Rect.unit (s := S4x512x512) off S1x512x512.size p)).Stores Finset.univ} {hm}
    {α : Type} {Q : α → sProp 𝕄} {kk : PUnit → Prog (TpuEff nD τ sig (Elt F) Λ₀ .tc) α} :
    iprop(∃ f, stPts c k f) ⊢ iprop((stFull m ρ c k j -∗ runs c (kk ⟨⟩) Q)
      -∗ runs c (.op (.store sM (Rect.unit (s := S4x512x512) off S1x512x512.size p) w Finset.univ hx hm) kk) Q) := by
  subst hw
  unfold stPts stFull
  iintro ⟨%f, H⟩ Hk
  iapply (wp_store 𝒱₀ (c : Thread nD τ) none Set.univ (m := sM) (r := (Rect.unit (s := S4x512x512) off S1x512x512.size p)) (S := slot4 k) (Mk := Finset.univ)
    (by rw [View.setOn_univ, View.set_slice_whole, rect_slot4 k h p])) $$ H
  iintro H
  iapply Hk
  iexists _
  isplitr
  rotate_left
  · unfold stPts; iexact H
  · ipureintro
    intro off' p' h'
    obtain rfl : off' = off := h'.trans h.symm
    refine (tile_read (b := cc0_scratch0) (Rect.unit (s := S4x512x512) off' S1x512x512.size p') (fun _ => rfl) squeezes_S1x512x512_S512x512
      narrow_casts f _).trans ?_
    exact shapeCast_back _ _ _

/-- A load of a landing tile that has arrived gives what was sent. -/
theorem cm_load (c s : Dev nD) {off : Fin 3 → ℕ} (h : off = ![s.val, 0, 0]) (p : ∀ a, off a + S1x512x512.size a ≤ S4x512x512.size a)
    {hl : cM.view.LoadsAt (Rect.unit (s := S4x512x512) off S1x512x512.size p).toLoadRect} {α : Type} {Q : α → sProp 𝕄}
    {kk : ((Rect.unit (s := S4x512x512) off S1x512x512.size p).toLoadRect.shape.Idx → Elt F .bf16) → Prog (TpuEff nD τ sig (Elt F) Λ₀ .tc) α} :
    recvPay m ρ c s ⊢ iprop((recvPay m ρ c s -∗ runs c (kk (lead (sentTo (xstg m ρ s) c))) Q)
      -∗ runs c (.op (.load cM (Rect.unit (s := S4x512x512) off S1x512x512.size p).toLoadRect hl) kk) Q) := by
  unfold recvPay cmPts
  iintro ⟨%f, H⟩ Hk
  iapply (wp_load 𝒱₀ (c : Thread nD τ) none Set.univ (m := cM) (r := (Rect.unit (s := S4x512x512) off S1x512x512.size p).toLoadRect) (S := slot4 s.val)
    (Memref.setOn_subset_of_access_subset (c : Thread nD τ) (by rw [View.set_slice_whole, rect_slot4 s.val h p]))) $$ H
  rw [tile_load (b := cc0_scratch1) (h.trans (k0_off4_eq s).symm) (k0_off4_inb s) p (fun _ => rfl) squeezes_S1x512x512_S512x512
      shapeCasts_S512x512_S1x512x512 f (sentTo (xstg m ρ s) c)]
  iintro H
  iapply Hk
  iexists f; iexact H

/-- A load of a full weight tile gives the row block in it. -/
theorem wb_load (c j : Dev nD) (k : ℕ) {off : Fin 3 → ℕ} (h : off = ![k, 0, 0]) (p : ∀ a, off a + S1x512x2048.size a ≤ S2x512x2048.size a)
    {hl : bM.view.LoadsAt (Rect.unit (s := S2x512x2048) off S1x512x2048.size p).toLoadRect} {α : Type} {Q : α → sProp 𝕄}
    {kk : ((Rect.unit (s := S2x512x2048) off S1x512x2048.size p).toLoadRect.shape.Idx → Elt F .f32) → Prog (TpuEff nD τ sig (Elt F) Λ₀ .tc) α} :
    wbFull m ρ c k j ⊢ iprop((wbFull m ρ c k j -∗ runs c (kk (leadW (wblk (wmat m ρ c) j))) Q)
      -∗ runs c (.op (.load bM (Rect.unit (s := S2x512x2048) off S1x512x2048.size p).toLoadRect hl) kk) Q) := by
  unfold wbFull wbPts
  iintro ⟨%f, %hf, H⟩ Hk
  iapply (wp_load 𝒱₀ (c : Thread nD τ) none Set.univ (m := bM) (r := (Rect.unit (s := S2x512x2048) off S1x512x2048.size p).toLoadRect) (S := slot2 k)
    (Memref.setOn_subset_of_access_subset (c : Thread nD τ) (by rw [View.set_slice_whole, rect_slot2 k h p]))) $$ H
  rw [hf off p h]
  iintro H
  iapply Hk
  iexists f
  isplitr; · ipureintro; exact hf
  iexact H

theorem zero2 : (![0, 0] : Fin 2 → ℕ) = fun _ => 0 := funext fun a => by fin_cases a <;> rfl

/-- The whole rectangle of the result buffer. -/
abbrev rO : Rect S512x2048 := Rect.unit (s := S512x2048) ![0, 0] S512x2048.size inb_S512x2048_S512x2048_0_0

/-- A load of the result buffer gives what it holds, -/
theorem o_load (c : Dev nD) (f : (cc0_stg1_0 : Ref sig .tc).ty.Contents (Elt F)) {hl : oM.view.LoadsAt rO.toLoadRect} {α : Type} {Q : α → sProp 𝕄}
    {kk : (rO.toLoadRect.shape.Idx → Elt F .f32) → Prog (TpuEff nD τ sig (Elt F) Λ₀ .tc) α} :
    oPts c f ⊢ iprop((oPts c f -∗ runs c (kk f) Q) -∗ runs c (.op (.load oM rO.toLoadRect hl) kk) Q) := by
  have e : oM.view.readAt (Elt F) rO.toLoadRect f = f := Memref.readAt_unit_zero (Elt F) cc0_stg1_0 zero2 _ f
  unfold oPts
  iintro H Hk
  iapply (wp_load 𝒱₀ (c : Thread nD τ) none Set.univ (m := oM) (Finset.subset_univ _)) $$ H
  rw [e]
  iexact Hk

/-- and a store over it leaves what was stored. -/
theorem o_store (c : Dev nD) (f w : (cc0_stg1_0 : Ref sig .tc).ty.Contents (Elt F)) {hx : (oM.access rO).Stores Finset.univ} {hm} {α : Type} {Q : α → sProp 𝕄}
    {kk : PUnit → Prog (TpuEff nD τ sig (Elt F) Λ₀ .tc) α} :
    oPts c f ⊢ iprop((oPts c w -∗ runs c (kk ⟨⟩) Q) -∗ runs c (.op (.store oM rO w Finset.univ hx hm) kk) Q) := by
  have e : ((oM.access rO : View sig .tc _ _ _)).write (Elt F) f w Finset.univ = w := Memref.write_access_unit_zero_univ (Elt F) cc0_stg1_0 zero2 _ f w
  unfold oPts
  iintro H Hk
  iapply (wp_store 𝒱₀ (c : Thread nD τ) none Set.univ (m := oM) (r := rO) (Mk := Finset.univ) (Finset.subset_univ _)) $$ H
  rw [e]
  iexact Hk

end Steps

end Cert.AllToAll

end

end
-- ==== Proof.Parts.lean ====
/- The parts of the kernel body, each run from the resources it uses to what it leaves them as. The parts are the pieces
   the printed body is cut into, in program order; a result a part passes on that only later offsets are computed from is
   left arbitrary. -/
module

public import proofs.«01_k».proof.Proof.Steps

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 8 → ℕ)

/-! ## The peers and the offsets, as the program computes them -/

theorem dev1_at (c : Dev nD) : (⟨k0_dev1 c, k0_dev1_lt c⟩ : Dev nD) = nx 1 c := by revert c; decide
theorem dev2_at (c : Dev nD) : (⟨k0_dev2 c, k0_dev2_lt c⟩ : Dev nD) = nx 2 c := by revert c; decide
theorem dev3_at (c : Dev nD) : (⟨k0_dev3 c, k0_dev3_lt c⟩ : Dev nD) = nx 3 c := by revert c; decide
theorem dev4_at (c : Dev nD) : (⟨k0_dev4 c, k0_dev4_lt c⟩ : Dev nD) = nx 1 c := by revert c; decide
theorem dev5_at (c : Dev nD) : (⟨k0_dev5 c, k0_dev5_lt c⟩ : Dev nD) = nx 2 c := by revert c; decide
theorem dev6_at (c : Dev nD) : (⟨k0_dev6 c, k0_dev6_lt c⟩ : Dev nD) = nx 3 c := by revert c; decide

theorem off1_at (c : Dev nD) : k0_off1 c = ![512 * c.val, 0] := by revert c; decide
theorem off2_at (c : Dev nD) : k0_off2 c = ![512 * (nx 1 c).val, 0] := by revert c; decide
theorem off3_at (c : Dev nD) : k0_off3 c = ![c.val] := by revert c; decide
theorem off5_1 (c : Dev nD) : k0_off5 c 1#32 = ![512 * (nx 2 c).val, 0] := by revert c; decide
theorem off5_2 (c : Dev nD) : k0_off5 c 2#32 = ![512 * (nx 3 c).val, 0] := by revert c; decide
theorem off6_1 (c : Dev nD) : k0_off6 c 1#32 = ![512 * (nx 1 c).val, 0] := by revert c; decide
theorem off6_2 (c : Dev nD) : k0_off6 c 2#32 = ![512 * (nx 2 c).val, 0] := by revert c; decide
theorem off6_3 (c : Dev nD) : k0_off6 c 3#32 = ![512 * (nx 3 c).val, 0] := by revert c; decide
theorem off7_at (c : Dev nD) : k0_off7 c = ![512 * c.val, 0] := by revert c; decide
theorem off8_1 (c : Dev nD) : k0_off8 c 1#32 = ![(nx 1 c).val] := by revert c; decide
theorem off8_2 (c : Dev nD) : k0_off8 c 2#32 = ![(nx 2 c).val] := by revert c; decide
theorem off8_3 (c : Dev nD) : k0_off8 c 3#32 = ![(nx 3 c).val] := by revert c; decide
theorem off10_1 (c : Dev nD) : k0_off10 c 1#32 = ![(nx 1 c).val, 0, 0] := by revert c; decide
theorem off10_2 (c : Dev nD) : k0_off10 c 2#32 = ![(nx 2 c).val, 0, 0] := by revert c; decide
theorem off10_3 (c : Dev nD) : k0_off10 c 3#32 = ![(nx 3 c).val, 0, 0] := by revert c; decide

theorem stFull_some (c : Dev nD) (k : ℕ) (j : Dev nD) : stFull m ρ c k j ⊢ iprop(∃ f, stPts c k f) := by
  unfold stFull; iintro ⟨%f, -, H⟩; iexists f; iexact H
theorem wbFull_some (c : Dev nD) (k : ℕ) (j : Dev nD) : wbFull m ρ c k j ⊢ iprop(∃ f, wbPts c k f) := by
  unfold wbFull; iintro ⟨%f, -, H⟩; iexists f; iexact H

/-- The barrier semaphore as the first part passes it on. -/
abbrev barArr : Sems sig S_ := SemArray.scalar (sig.barrier 0 rfl)

/-- A program that has ended has run. -/
theorem runs_ret (c : Dev nD) {α : Type} (a : α) (Q : α → sProp 𝕄) : runs c (.ret a) Q = iprop(|={Set.univ}=> Q a) := rfl

section Parts

variable (c : Dev nD)

set_option maxHeartbeats 800000 in
/-- The first part: the fetch of the own row block starts, each peer is told that its landing tile is free, and the row block of `x` meant for the next device is loaded. -/
theorem part1_runs (Kt : (Σ' (d0 : Dev nD) (v2 : BitVec 32) (v9 : Sems sig S_), FVec F S512x512 .f32) → sProp 𝕄) :
    iprop(records m ρ K ∗ wrPts m ρ c c
        ∗ (∃ f, wbPts c 0 f)
        ∗ semVal (w0Cell c) 0
        ∗ ow c (O₀ c)
        ∗ dutyTok ER (barCell (nx 1 c)) 0 3
        ∗ dutyTok ER (barCell (nx 2 c)) 0 2
        ∗ dutyTok ER (barCell (nx 3 c)) 0 1
        ∗ (∃ f, cmPts c (nx 1 c) f)
        ∗ (∃ f, cmPts c (nx 2 c) f)
        ∗ (∃ f, cmPts c (nx 3 c) f)
        ∗ xPts m ρ c)
      ⊢ iprop((∀ v2 : BitVec 32, iprop(wFlight m ρ c w0S 0 c
            ∗ ow c (OR c)
            ∗ xPts m ρ c) -∗ Kt ⟨c, v2, barArr, k0_pay2 (xblk (xstg m ρ c) (nx 1 c))⟩)
          -∗ runs c (k0_part1 (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5) Kt) := by
  rw [k0_part1_eq_skeleton]; unfold k0_part1_skel
  simp only [semSignalWord, semWaitWord, Prog.lift, Prog.bind_op, Prog.bind_ret, Prog.pure_eq_ret, wp_deviceId]
  iintro ⟨#HR, Hw0, Hb0, Hv0, HO, Ht1, Ht2, Ht3, Hc1, Hc2, Hc3, Hx⟩ Hk
  iapply (w_fetch m ρ c c 0 (q := w0S) w0Sem_eq (off1_at c) _ rfl _) $$ [Hw0 Hb0 Hv0]
  · isplitl [Hw0]; · iexact Hw0
    isplitl [Hb0]; · iexact Hb0
    iexact Hv0
  iintro Hf
  unfold O₀
  iapply (signal_peer m ρ K c _ 1 3 (dev1_at c) (nx_nx_31 c) (by decide) (OR c + owB 3 c + owB 2 c) rfl) $$ [HO Ht1 Hc1]
  · isplitr; · iexact HR
    isplitl [HO]; · iexact HO
    isplitl [Ht1]; · iexact Ht1
    iexact Hc1
  iintro HO
  iapply (signal_peer m ρ K c _ 2 2 (dev2_at c) (nx_nx_22 c) (by decide) (OR c + owB 3 c) rfl) $$ [HO Ht2 Hc2]
  · isplitr; · iexact HR
    isplitl [HO]; · iexact HO
    isplitl [Ht2]; · iexact Ht2
    iexact Hc2
  iintro HO
  iapply (signal_peer m ρ K c _ 3 1 (dev3_at c) (nx_nx_13 c) (by decide) (OR c) rfl) $$ [HO Ht3 Hc3]
  · isplitr; · iexact HR
    isplitl [HO]; · iexact HO
    isplitl [Ht3]; · iexact Ht3
    iexact Hc3
  iintro HO
  iapply (x_load m ρ c (nx 1 c) (off2_at c) _) $$ Hx
  iintro Hx
  rw [runs_ret]; imodintro
  ihave Hk := Hk $$ %_
  iapply Hk
  isplitl [Hf]; · iexact Hf
  isplitl [HO]; · iexact HO
  iexact Hx

set_option maxHeartbeats 800000 in
/-- The second part: the first send tile is filled; after the barrier it is sent to the next device; the second is filled. -/
theorem part2_runs (v2 : BitVec 32) (Kt : BitVec 32 → sProp 𝕄) :
    iprop(records m ρ K ∗ levAts L lv
        ∗ (∃ f, stPts c 1 f)
        ∗ (∃ f, stPts c 2 f)
        ∗ cred (tallyAt (barCell c) () 3)
        ∗ ow c (OR c)
        ∗ atPos ER (barCell c) 0 ∅ 0
        ∗ dutyTok ER (sendCell c 0) 0 0
        ∗ dutyTok ER (recvCell (nx 1 c) c) 0 0
        ∗ xPts m ρ c)
      ⊢ iprop((∀ v56 : BitVec 32, iprop(cred (tallyAt (sendCell c 0) () N)
            ∗ ow c (owR 3 c + owR 2 c)
            ∗ semVal (barCell c) 0
            ∗ (∃ f, cmPts (nx 2 c) c f)
            ∗ (∃ f, cmPts (nx 3 c) c f)
            ∗ stFull m ρ c 2 (nx 2 c)
            ∗ xPts m ρ c) -∗ Kt v56)
          -∗ runs c (k0_part2 (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5 c v2 barArr (k0_pay2 (xblk (xstg m ρ c) (nx 1 c)))) Kt) := by
  rw [k0_part2_eq_skeleton]; unfold k0_part2_skel
  simp only [semSignalWord, semWaitWord, Prog.lift, Prog.bind_op, Prog.bind_ret, Prog.pure_eq_ret, wp_deviceId]
  iintro ⟨#HR, #Hlev, Hs1, Hs2, HcB, HO, HatB, Hts1, Htr1, Hx⟩ Hk
  iapply (st_load c 1 rfl _) $$ Hs1
  iintro %_ Hs1
  iapply (st_store m ρ c (nx 1 c) 1 rfl _ (pay3_eq _ _)) $$ Hs1
  iintro Hs1
  iapply (bar_wait m ρ K c rfl) $$ [HcB HO HatB]
  · isplitr; · iexact HR
    isplitr; · iexact Hlev
    isplitl [HcB]; · iexact HcB
    isplitl [HO]; · iexact HO
    iexact HatB
  iintro ⟨HO, HzB, Hc1, Hc2, Hc3⟩
  unfold OR
  iapply (send_tile m ρ K c _ 1 0 (dev4_at c) (nx1_ne c).symm (owR 3 c + owR 2 c) rfl _ (sendSem_eq 0 rfl _) (recvSem_eq c (off3_at c) _)) $$ [Hs1 Hc1 HO Hts1 Htr1]
  · isplitr; · iexact HR
    isplitl [Hs1]; · iexact Hs1
    isplitl [Hc1]; · iexact Hc1
    isplitl [HO]; · iexact HO
    isplitl [Hts1]; · iexact Hts1
    iexact Htr1
  iintro ⟨HcS1, HO⟩
  iapply (x_load m ρ c (nx 2 c) (off5_1 c) _) $$ Hx
  iintro Hx
  iapply (st_load c 2 rfl _) $$ Hs2
  iintro %_ Hs2
  iapply (st_store m ρ c (nx 2 c) 2 rfl _ (pay4_eq _ _)) $$ Hs2
  iintro Hs2
  rw [runs_ret]; imodintro
  ihave Hk := Hk $$ %_
  iapply Hk
  isplitl [HcS1]; · iexact HcS1
  isplitl [HO]; · iexact HO
  isplitl [HzB]; · iexact HzB
  isplitl [Hc2]; · iexact Hc2
  isplitl [Hc3]; · iexact Hc3
  isplitl [Hs2]; · iexact Hs2
  iexact Hx

set_option maxHeartbeats 800000 in
/-- The third part: the second tile is sent, the third filled and sent; no transfer is owed any more. -/
theorem part3_runs (v2 v56 : BitVec 32) (Kt : PUnit → sProp 𝕄) :
    iprop(records m ρ K ∗ stFull m ρ c 2 (nx 2 c)
        ∗ (∃ f, stPts c 3 f)
        ∗ (∃ f, cmPts (nx 2 c) c f)
        ∗ (∃ f, cmPts (nx 3 c) c f)
        ∗ ow c (owR 3 c + owR 2 c)
        ∗ dutyTok ER (sendCell c 1) 0 0
        ∗ dutyTok ER (recvCell (nx 2 c) c) 0 0
        ∗ dutyTok ER (sendCell c 2) 0 0
        ∗ dutyTok ER (recvCell (nx 3 c) c) 0 0
        ∗ xPts m ρ c)
      ⊢ iprop((iprop(cred (tallyAt (sendCell c 1) () N)
            ∗ cred (tallyAt (sendCell c 2) () N)
            ∗ ow c 0
            ∗ xPts m ρ c) -∗ Kt ⟨⟩)
          -∗ runs c (k0_part3 (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5 c v2 v56) Kt) := by
  rw [k0_part3_eq_skeleton]; unfold k0_part3_skel
  simp only [semSignalWord, semWaitWord, Prog.lift, Prog.bind_op, Prog.bind_ret, Prog.pure_eq_ret, wp_deviceId]
  iintro ⟨#HR, Hs2, Hs3, Hc2, Hc3, HO, Hts2, Htr2, Hts3, Htr3, Hx⟩ Hk
  iapply (send_tile m ρ K c _ 2 1 (dev5_at c) (nx2_ne c).symm (owR 3 c) rfl _ (sendSem_eq 1 rfl _) (recvSem_eq c (off3_at c) _)) $$ [Hs2 Hc2 HO Hts2 Htr2]
  · isplitr; · iexact HR
    isplitl [Hs2]; · iexact Hs2
    isplitl [Hc2]; · iexact Hc2
    isplitl [HO]; · iexact HO
    isplitl [Hts2]; · iexact Hts2
    iexact Htr2
  iintro ⟨HcS2, HO⟩
  iapply (x_load m ρ c (nx 3 c) (off5_2 c) _) $$ Hx
  iintro Hx
  iapply (st_load c 3 rfl _) $$ Hs3
  iintro %_ Hs3
  iapply (st_store m ρ c (nx 3 c) 3 rfl _ (pay5_eq _ _)) $$ Hs3
  iintro Hs3
  rw [← zero_add (owR 3 c)]
  iapply (send_tile m ρ K c _ 3 2 (dev6_at c) (nx3_ne c).symm (0) rfl _ (sendSem_eq 2 rfl _) (recvSem_eq c (off3_at c) _)) $$ [Hs3 Hc3 HO Hts3 Htr3]
  · isplitr; · iexact HR
    isplitl [Hs3]; · iexact Hs3
    isplitl [Hc3]; · iexact Hc3
    isplitl [HO]; · iexact HO
    isplitl [Hts3]; · iexact Hts3
    iexact Htr3
  iintro ⟨HcS3, HO⟩
  rw [runs_ret]; imodintro
  iapply Hk
  isplitl [HcS2]; · iexact HcS2
  isplitl [HcS3]; · iexact HcS3
  isplitl [HO]; · iexact HO
  iexact Hx

set_option maxHeartbeats 800000 in
/-- The fourth part: the next row block of the weight matrix is on its way, and the result buffer holds the product of the own blocks. -/
theorem part4_runs (v2 : BitVec 32) (f : (cc0_stg1_0 : Ref sig .tc).ty.Contents (Elt F)) (Kt : PUnit → sProp 𝕄) :
    iprop(records m ρ K ∗ wFlight m ρ c w0S 0 c
        ∗ wrPts m ρ c (nx 1 c)
        ∗ (∃ f, wbPts c 1 f)
        ∗ semVal (w1Cell c) 0
        ∗ ow c 0
        ∗ xPts m ρ c
        ∗ oPts c f)
      ⊢ iprop((iprop(wFlight m ρ c w1S 1 (nx 1 c)
            ∗ wbFull m ρ c 0 c
            ∗ wrPts m ρ c c
            ∗ semVal (w0Cell c) 0
            ∗ ow c 0
            ∗ xPts m ρ c
            ∗ oPts c (acc0 (xstg m ρ) (wmat m ρ c) c)) -∗ Kt ⟨⟩)
          -∗ runs c (k0_part4 (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5 c v2) Kt) := by
  rw [k0_part4_eq_skeleton]; unfold k0_part4_skel
  simp only [semSignalWord, semWaitWord, Prog.lift, Prog.bind_op, Prog.bind_ret, Prog.pure_eq_ret, wp_deviceId]
  iintro ⟨#HR, Hf, Hw1, Hb1, Hv1, HO, Hx, Ho⟩ Hk
  iapply (w_fetch m ρ c (nx 1 c) 1 (q := w1S) w1Sem_eq (off6_1 c) _ rfl _) $$ [Hw1 Hb1 Hv1]
  · isplitl [Hw1]; · iexact Hw1
    isplitl [Hb1]; · iexact Hb1
    iexact Hv1
  iintro Hg
  iapply (w_wait m ρ c c 0 (q := w0S) w0Sem_eq (by rfl)) $$ [Hf HO]
  · isplitl [Hf]; · iexact Hf
    iexact HO
  iintro ⟨HO, Hb, Hw, Hv⟩
  iapply (x_load m ρ c c (off7_at c) _) $$ Hx
  iintro Hx
  iapply (wb_load m ρ c c 0 rfl _) $$ Hb
  iintro Hb
  iapply (o_load c f) $$ Ho
  iintro Ho
  iapply (o_store c f (acc0 (xstg m ρ) (wmat m ρ c) c)) $$ Ho
  iintro Ho
  rw [runs_ret]; imodintro
  iapply Hk
  isplitl [Hg]; · iexact Hg
  isplitl [Hb]; · iexact Hb
  isplitl [Hw]; · iexact Hw
  isplitl [Hv]; · iexact Hv
  isplitl [HO]; · iexact HO
  isplitl [Hx]; · iexact Hx
  iexact Ho

set_option maxHeartbeats 800000 in
/-- The fifth part: the row block after that is on its way, and the product with the tile from the next device is added. -/
theorem part5_runs (v2 : BitVec 32) (Kt : (Σ' (v146 : BitVec 32), BitVec 32) → sProp 𝕄) :
    iprop(records m ρ K ∗ wFlight m ρ c w1S 1 (nx 1 c)
        ∗ (∃ f, wbPts c 0 f)
        ∗ wrPts m ρ c (nx 2 c)
        ∗ semVal (w0Cell c) 0
        ∗ cred (tallyAt (recvCell c (nx 1 c)) () N)
        ∗ atPos ER (recvCell c (nx 1 c)) 0 ∅ 0
        ∗ ow c 0
        ∗ oPts c (acc0 (xstg m ρ) (wmat m ρ c) c))
      ⊢ iprop((∀ v146 : BitVec 32, ∀ v5 : BitVec 32, iprop(wFlight m ρ c w0S 0 (nx 2 c)
            ∗ wbFull m ρ c 1 (nx 1 c)
            ∗ wrPts m ρ c (nx 1 c)
            ∗ semVal (w1Cell c) 0
            ∗ semVal (recvCell c (nx 1 c)) 0
            ∗ recvPay m ρ c (nx 1 c)
            ∗ ow c 0
            ∗ oPts c (acc1 (xstg m ρ) (wmat m ρ c) c)) -∗ Kt ⟨v146, v5⟩)
          -∗ runs c (k0_part5 (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5 c v2) Kt) := by
  rw [k0_part5_eq_skeleton]; unfold k0_part5_skel
  simp only [semSignalWord, semWaitWord, Prog.lift, Prog.bind_op, Prog.bind_ret, Prog.pure_eq_ret, wp_deviceId]
  iintro ⟨#HR, Hf, Hb0, Hw2, Hv0, HcR, HatR, HO, Ho⟩ Hk
  iapply (w_fetch m ρ c (nx 2 c) 0 (q := w0S) w0Sem_eq (off6_2 c) _ rfl _) $$ [Hw2 Hb0 Hv0]
  · isplitl [Hw2]; · iexact Hw2
    isplitl [Hb0]; · iexact Hb0
    iexact Hv0
  iintro Hg
  iapply (recv_wait m ρ K c (nx 1 c) (nx1_ne c) (recvSem_eq (nx 1 c) (off8_1 c) _) (by rfl)) $$ [HcR HO HatR]
  · isplitr; · iexact HR
    isplitl [HcR]; · iexact HcR
    isplitl [HO]; · iexact HO
    iexact HatR
  iintro ⟨HO, HzR, HpR⟩
  iapply (w_wait m ρ c (nx 1 c) 1 (q := w1S) w1Sem_eq (by rfl)) $$ [Hf HO]
  · isplitl [Hf]; · iexact Hf
    iexact HO
  iintro ⟨HO, Hb, Hw, Hv⟩
  iapply (o_load c _) $$ Ho
  iintro Ho
  iapply (cm_load m ρ c (nx 1 c) (off10_1 c) _) $$ HpR
  iintro HpR
  iapply (wb_load m ρ c (nx 1 c) 1 rfl _) $$ Hb
  iintro Hb
  iapply (o_load c _) $$ Ho
  iintro Ho
  iapply (o_store c _ (acc1 (xstg m ρ) (wmat m ρ c) c)) $$ Ho
  iintro Ho
  rw [runs_ret]; imodintro
  ihave Hk := Hk $$ %_
  iapply Hk
  isplitl [Hg]; · iexact Hg
  isplitl [Hb]; · iexact Hb
  isplitl [Hw]; · iexact Hw
  isplitl [Hv]; · iexact Hv
  isplitl [HzR]; · iexact HzR
  isplitl [HpR]; · iexact HpR
  isplitl [HO]; · iexact HO
  iexact Ho

set_option maxHeartbeats 800000 in
/-- The sixth part: the last row block is on its way, and the product with the tile from the device two places on is formed. -/
theorem part6_runs (v2 v146 v5 : BitVec 32) (Kt : (Σ' (v169 : FVec F S512x2048 .f32), FVec F S512x2048 .f32) → sProp 𝕄) :
    iprop(records m ρ K ∗ wFlight m ρ c w0S 0 (nx 2 c)
        ∗ (∃ f, wbPts c 1 f)
        ∗ wrPts m ρ c (nx 3 c)
        ∗ semVal (w1Cell c) 0
        ∗ cred (tallyAt (recvCell c (nx 2 c)) () N)
        ∗ atPos ER (recvCell c (nx 2 c)) 0 ∅ 0
        ∗ ow c 0
        ∗ oPts c (acc1 (xstg m ρ) (wmat m ρ c) c))
      ⊢ iprop((iprop(wFlight m ρ c w1S 1 (nx 3 c)
            ∗ wbFull m ρ c 0 (nx 2 c)
            ∗ wrPts m ρ c (nx 2 c)
            ∗ semVal (w0Cell c) 0
            ∗ semVal (recvCell c (nx 2 c)) 0
            ∗ recvPay m ρ c (nx 2 c)
            ∗ ow c 0
            ∗ oPts c (acc1 (xstg m ρ) (wmat m ρ c) c)) -∗ Kt ⟨k0_pay8 (acc1 (xstg m ρ) (wmat m ρ c) c), k0_pay9 (lead (sentTo (xstg m ρ (nx 2 c)) c)) (leadW (wblk (wmat m ρ c) (nx 2 c)))⟩)
          -∗ runs c (k0_part6 (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5 c v2 v146 v5) Kt) := by
  rw [k0_part6_eq_skeleton]; unfold k0_part6_skel
  simp only [semSignalWord, semWaitWord, Prog.lift, Prog.bind_op, Prog.bind_ret, Prog.pure_eq_ret, wp_deviceId]
  iintro ⟨#HR, Hf, Hb1, Hw3, Hv1, HcR, HatR, HO, Ho⟩ Hk
  iapply (w_fetch m ρ c (nx 3 c) 1 (q := w1S) w1Sem_eq (off6_3 c) _ rfl _) $$ [Hw3 Hb1 Hv1]
  · isplitl [Hw3]; · iexact Hw3
    isplitl [Hb1]; · iexact Hb1
    iexact Hv1
  iintro Hg
  iapply (recv_wait m ρ K c (nx 2 c) (nx2_ne c) (recvSem_eq (nx 2 c) (off8_2 c) _) (by rfl)) $$ [HcR HO HatR]
  · isplitr; · iexact HR
    isplitl [HcR]; · iexact HcR
    isplitl [HO]; · iexact HO
    iexact HatR
  iintro ⟨HO, HzR, HpR⟩
  iapply (w_wait m ρ c (nx 2 c) 0 (q := w0S) w0Sem_eq (by rfl)) $$ [Hf HO]
  · isplitl [Hf]; · iexact Hf
    iexact HO
  iintro ⟨HO, Hb, Hw, Hv⟩
  iapply (o_load c _) $$ Ho
  iintro Ho
  iapply (cm_load m ρ c (nx 2 c) (off10_2 c) _) $$ HpR
  iintro HpR
  iapply (wb_load m ρ c (nx 2 c) 0 rfl _) $$ Hb
  iintro Hb
  rw [runs_ret]; imodintro
  iapply Hk
  isplitl [Hg]; · iexact Hg
  isplitl [Hb]; · iexact Hb
  isplitl [Hw]; · iexact Hw
  isplitl [Hv]; · iexact Hv
  isplitl [HzR]; · iexact HzR
  isplitl [HpR]; · iexact HpR
  isplitl [HO]; · iexact HO
  iexact Ho

set_option maxHeartbeats 800000 in
/-- The seventh part: that product is added, and the product with the tile from the last peer. -/
theorem part7_runs (v2 : BitVec 32) (Kt : PUnit → sProp 𝕄) :
    iprop(records m ρ K ∗ wFlight m ρ c w1S 1 (nx 3 c)
        ∗ cred (tallyAt (recvCell c (nx 3 c)) () N)
        ∗ atPos ER (recvCell c (nx 3 c)) 0 ∅ 0
        ∗ ow c 0
        ∗ oPts c (acc1 (xstg m ρ) (wmat m ρ c) c))
      ⊢ iprop((iprop(wbFull m ρ c 1 (nx 3 c)
            ∗ wrPts m ρ c (nx 3 c)
            ∗ semVal (w1Cell c) 0
            ∗ semVal (recvCell c (nx 3 c)) 0
            ∗ recvPay m ρ c (nx 3 c)
            ∗ ow c 0
            ∗ oPts c (acc3 (xstg m ρ) (wmat m ρ c) c)) -∗ Kt ⟨⟩)
          -∗ runs c (k0_part7 (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5 c v2 (k0_pay8 (acc1 (xstg m ρ) (wmat m ρ c) c)) (k0_pay9 (lead (sentTo (xstg m ρ (nx 2 c)) c)) (leadW (wblk (wmat m ρ c) (nx 2 c))))) Kt) := by
  rw [k0_part7_eq_skeleton]; unfold k0_part7_skel
  simp only [semSignalWord, semWaitWord, Prog.lift, Prog.bind_op, Prog.bind_ret, Prog.pure_eq_ret, wp_deviceId]
  iintro ⟨#HR, Hf, HcR, HatR, HO, Ho⟩ Hk
  iapply (o_load c _) $$ Ho
  iintro Ho
  iapply (o_store c _ (acc2 (xstg m ρ) (wmat m ρ c) c)) $$ Ho
  iintro Ho
  iapply (recv_wait m ρ K c (nx 3 c) (nx3_ne c) (recvSem_eq (nx 3 c) (off8_3 c) _) (by rfl)) $$ [HcR HO HatR]
  · isplitr; · iexact HR
    isplitl [HcR]; · iexact HcR
    isplitl [HO]; · iexact HO
    iexact HatR
  iintro ⟨HO, HzR, HpR⟩
  iapply (w_wait m ρ c (nx 3 c) 1 (q := w1S) w1Sem_eq (by rfl)) $$ [Hf HO]
  · isplitl [Hf]; · iexact Hf
    iexact HO
  iintro ⟨HO, Hb, Hw, Hv⟩
  iapply (o_load c _) $$ Ho
  iintro Ho
  iapply (cm_load m ρ c (nx 3 c) (off10_3 c) _) $$ HpR
  iintro HpR
  iapply (wb_load m ρ c (nx 3 c) 1 rfl _) $$ Hb
  iintro Hb
  iapply (o_load c _) $$ Ho
  iintro Ho
  iapply (o_store c _ (acc3 (xstg m ρ) (wmat m ρ c) c)) $$ Ho
  iintro Ho
  rw [runs_ret]; imodintro
  iapply Hk
  isplitl [Hb]; · iexact Hb
  isplitl [Hw]; · iexact Hw
  isplitl [Hv]; · iexact Hv
  isplitl [HzR]; · iexact HzR
  isplitl [HpR]; · iexact HpR
  isplitl [HO]; · iexact HO
  iexact Ho

end Parts

end Cert.AllToAll

end

end
-- ==== Proof.Pieces.lean ====
/- The buffers taken apart and put together again: the landing buffer and the weight matrix by devices, starting from the
   device's own part; the send buffer and the weight buffer by places. -/
module

public import proofs.«01_k».proof.Proof.Protocol

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The four parts of an index type told apart by `κ`, in the order of the devices from `c` on. -/
theorem cover4 {I : Type} [Fintype I] [DecidableEq I] (κ : I → ℕ) (hκ : ∀ i, κ i < 4) (c : Dev nD) :
    (Finset.univ : Finset I) = (Finset.univ.filter fun i => κ i = c.val) ∪ ((Finset.univ.filter fun i => κ i = (nx 1 c).val)
      ∪ ((Finset.univ.filter fun i => κ i = (nx 2 c).val) ∪ (Finset.univ.filter fun i => κ i = (nx 3 c).val))) := by
  have hd : ∀ d : Dev nD, d.val = c.val ∨ d.val = (nx 1 c).val ∨ d.val = (nx 2 c).val ∨ d.val = (nx 3 c).val := by revert c; decide
  ext i
  simp only [Finset.mem_univ, Finset.mem_union, Finset.mem_filter, true_and, true_iff]
  exact hd ⟨κ i, hκ i⟩

theorem cover2 {I : Type} [Fintype I] [DecidableEq I] (κ : I → ℕ) (hκ : ∀ i, κ i < 2) :
    (Finset.univ : Finset I) = (Finset.univ.filter fun i => κ i = 0) ∪ (Finset.univ.filter fun i => κ i = 1) := by
  ext i
  simp only [Finset.mem_univ, Finset.mem_union, Finset.mem_filter, true_and, true_iff]
  have := hκ i
  omega

theorem nx_val_ne (c : Dev nD) : c.val ≠ (nx 1 c).val ∧ c.val ≠ (nx 2 c).val ∧ c.val ≠ (nx 3 c).val ∧ (nx 1 c).val ≠ (nx 2 c).val
    ∧ (nx 1 c).val ≠ (nx 3 c).val ∧ (nx 2 c).val ≠ (nx 3 c).val := by revert c; decide

/-- A buffer held whole is its four parts held, -/
theorem split4 (ℓ : Loc nD τ sig) (κ : Idx ℓ → ℕ) (hκ : ∀ i, κ i < 4) (c : Dev nD) (f : Buf (Elt F) ℓ) :
    (ℓ ↦{fullShare} f : sProp 𝕄) ⊣⊢ iprop((ℓ ↦[Finset.univ.filter fun i => κ i = c.val]{fullShare} f)
      ∗ (ℓ ↦[Finset.univ.filter fun i => κ i = (nx 1 c).val]{fullShare} f) ∗ (ℓ ↦[Finset.univ.filter fun i => κ i = (nx 2 c).val]{fullShare} f)
      ∗ (ℓ ↦[Finset.univ.filter fun i => κ i = (nx 3 c).val]{fullShare} f)) := by
  obtain ⟨h1, h2, h3, h4, h5, h6⟩ := nx_val_ne c
  have d1 := fibers_disjoint κ h1
  have d2 := fibers_disjoint κ h2
  have d3 := fibers_disjoint κ h3
  have d4 := fibers_disjoint κ h4
  have d5 := fibers_disjoint κ h5
  have d6 := fibers_disjoint κ h6
  have e : (ℓ ↦{fullShare} f : sProp 𝕄) = (ℓ ↦[(Finset.univ.filter fun i => κ i = c.val) ∪ ((Finset.univ.filter fun i => κ i = (nx 1 c).val)
      ∪ ((Finset.univ.filter fun i => κ i = (nx 2 c).val) ∪ (Finset.univ.filter fun i => κ i = (nx 3 c).val)))]{fullShare} f) := by
    rw [← cover4 κ hκ c]
  rw [e]
  have j2 : Disjoint (Finset.univ.filter fun i => κ i = (nx 1 c).val)
      ((Finset.univ.filter fun i => κ i = (nx 2 c).val) ∪ (Finset.univ.filter fun i => κ i = (nx 3 c).val)) := Finset.disjoint_union_right.mpr ⟨d4, d5⟩
  have j1 := Finset.disjoint_union_right.mpr ⟨d1, Finset.disjoint_union_right.mpr ⟨d2, d3⟩⟩
  exact (pointsTo_union j1).trans (sep_congr_right ((pointsTo_union j2).trans (sep_congr_right (pointsTo_union d6))))

theorem split4_some (ℓ : Loc nD τ sig) (κ : Idx ℓ → ℕ) (hκ : ∀ i, κ i < 4) (c : Dev nD) :
    (iprop(∃ f : Buf (Elt F) ℓ, ℓ ↦{fullShare} f) : sProp 𝕄)
      ⊢ iprop((∃ f : Buf (Elt F) ℓ, ℓ ↦[Finset.univ.filter fun i => κ i = c.val]{fullShare} f)
      ∗ (∃ f : Buf (Elt F) ℓ, ℓ ↦[Finset.univ.filter fun i => κ i = (nx 1 c).val]{fullShare} f)
      ∗ (∃ f : Buf (Elt F) ℓ, ℓ ↦[Finset.univ.filter fun i => κ i = (nx 2 c).val]{fullShare} f)
      ∗ (∃ f : Buf (Elt F) ℓ, ℓ ↦[Finset.univ.filter fun i => κ i = (nx 3 c).val]{fullShare} f)) := by
  iintro ⟨%f, H⟩
  ihave H' := (split4 ℓ κ hκ c f).1 $$ H
  icases H' with ⟨H0, H1, H2, H3⟩
  isplitl [H0]; · iexists f; iexact H0
  isplitl [H1]; · iexists f; iexact H1
  isplitl [H2]; · iexists f; iexact H2
  iexists f; iexact H3

/-- and parts held at any contents make the buffer whole. -/
theorem join2 (ℓ : Loc nD τ sig) {I J : Finset (Idx ℓ)} (h : Disjoint I J) :
    iprop((∃ f : Buf (Elt F) ℓ, ℓ ↦[I]{fullShare} f) ∗ (∃ f : Buf (Elt F) ℓ, ℓ ↦[J]{fullShare} f))
      ⊢ (iprop(∃ f : Buf (Elt F) ℓ, ℓ ↦[I ∪ J]{fullShare} f) : sProp 𝕄) := by
  iintro ⟨⟨%f, H⟩, ⟨%g, H'⟩⟩
  iexists (J.piecewise g f)
  iapply (pointsTo_join h)
  isplitl [H] <;> iassumption

theorem join4 (ℓ : Loc nD τ sig) (κ : Idx ℓ → ℕ) (hκ : ∀ i, κ i < 4) (c : Dev nD) :
    iprop((∃ f : Buf (Elt F) ℓ, ℓ ↦[Finset.univ.filter fun i => κ i = c.val]{fullShare} f)
      ∗ (∃ f : Buf (Elt F) ℓ, ℓ ↦[Finset.univ.filter fun i => κ i = (nx 1 c).val]{fullShare} f)
      ∗ (∃ f : Buf (Elt F) ℓ, ℓ ↦[Finset.univ.filter fun i => κ i = (nx 2 c).val]{fullShare} f)
      ∗ (∃ f : Buf (Elt F) ℓ, ℓ ↦[Finset.univ.filter fun i => κ i = (nx 3 c).val]{fullShare} f))
      ⊢ (iprop(∃ f : Buf (Elt F) ℓ, ℓ ↦{fullShare} f) : sProp 𝕄) := by
  obtain ⟨h1, h2, h3, h4, h5, h6⟩ := nx_val_ne c
  have d1 := fibers_disjoint κ h1
  have d2 := fibers_disjoint κ h2
  have d3 := fibers_disjoint κ h3
  have d4 := fibers_disjoint κ h4
  have d5 := fibers_disjoint κ h5
  have d6 := fibers_disjoint κ h6
  have j2 : Disjoint (Finset.univ.filter fun i => κ i = (nx 1 c).val)
      ((Finset.univ.filter fun i => κ i = (nx 2 c).val) ∪ (Finset.univ.filter fun i => κ i = (nx 3 c).val)) := Finset.disjoint_union_right.mpr ⟨d4, d5⟩
  have j1 := Finset.disjoint_union_right.mpr ⟨d1, Finset.disjoint_union_right.mpr ⟨d2, d3⟩⟩
  refine (sep_mono_right ((sep_mono_right (join2 ℓ d6)).trans (join2 ℓ j2))).trans ((join2 ℓ j1).trans ?_)
  rw [← cover4 κ hκ c]

/-- The send buffer's four tiles. -/
theorem st_split (c : Dev nD) :
    iprop(∃ f : (cc0_scratch0 : Ref sig .tc).ty.Contents (Elt F), ((c : Thread nD τ).loc cc0_scratch0) ↦{fullShare} f)
      ⊢ (iprop((∃ f, stPts c 0 f) ∗ (∃ f, stPts c 1 f) ∗ (∃ f, stPts c 2 f) ∗ (∃ f, stPts c 3 f)) : sProp 𝕄) :=
  split4_some (F := F) ((c : Thread nD τ).loc cc0_scratch0) (fun i => (i 0).val) (fun i => (i 0).isLt) (0 : Dev nD)

theorem st_join (c : Dev nD) :
    (iprop((∃ f, stPts c 0 f) ∗ (∃ f, stPts c 1 f) ∗ (∃ f, stPts c 2 f) ∗ (∃ f, stPts c 3 f)) : sProp 𝕄)
      ⊢ iprop(∃ f : (cc0_scratch0 : Ref sig .tc).ty.Contents (Elt F), ((c : Thread nD τ).loc cc0_scratch0) ↦{fullShare} f) :=
  join4 (F := F) ((c : Thread nD τ).loc cc0_scratch0) (fun i => (i 0).val) (fun i => (i 0).isLt) (0 : Dev nD)

/-- The landing buffer's four tiles, one for each device. -/
theorem cm_split (c : Dev nD) :
    iprop(∃ f : (cc0_scratch1 : Ref sig .tc).ty.Contents (Elt F), ((c : Thread nD τ).loc cc0_scratch1) ↦{fullShare} f)
      ⊢ (iprop((∃ f, cmPts c c f) ∗ (∃ f, cmPts c (nx 1 c) f) ∗ (∃ f, cmPts c (nx 2 c) f) ∗ (∃ f, cmPts c (nx 3 c) f)) : sProp 𝕄) :=
  split4_some (F := F) ((c : Thread nD τ).loc cc0_scratch1) (fun i => (i 0).val) (fun i => (i 0).isLt) c

theorem cm_join (c : Dev nD) :
    (iprop((∃ f, cmPts c c f) ∗ (∃ f, cmPts c (nx 1 c) f) ∗ (∃ f, cmPts c (nx 2 c) f) ∗ (∃ f, cmPts c (nx 3 c) f)) : sProp 𝕄)
      ⊢ iprop(∃ f : (cc0_scratch1 : Ref sig .tc).ty.Contents (Elt F), ((c : Thread nD τ).loc cc0_scratch1) ↦{fullShare} f) :=
  join4 (F := F) ((c : Thread nD τ).loc cc0_scratch1) (fun i => (i 0).val) (fun i => (i 0).isLt) c

/-- The weight buffer's two tiles. -/
theorem wb_split (c : Dev nD) :
    iprop(∃ f : (cc0_scratch2 : Ref sig .tc).ty.Contents (Elt F), ((c : Thread nD τ).loc cc0_scratch2) ↦{fullShare} f)
      ⊢ (iprop((∃ f, wbPts c 0 f) ∗ (∃ f, wbPts c 1 f)) : sProp 𝕄) := by
  iintro ⟨%f, H⟩
  have e : (((c : Thread nD τ).loc cc0_scratch2) ↦{fullShare} f : sProp 𝕄) = (((c : Thread nD τ).loc cc0_scratch2) ↦[slot2 0 ∪ slot2 1]{fullShare} f) :=
    congrArg (fun I => (((c : Thread nD τ).loc cc0_scratch2) ↦[I]{fullShare} f : sProp 𝕄)) (cover2 (fun i : S2x512x2048.Idx => (i 0).val) (fun i => (i 0).isLt))
  ihave H := (Entails.of_eq e) $$ H
  ihave H' := (pointsTo_union (fibers_disjoint (fun i : S2x512x2048.Idx => (i 0).val) (by decide))).1 $$ H
  icases H' with ⟨H0, H1⟩
  unfold wbPts
  isplitl [H0]; · iexists f; iexact H0
  iexists f; iexact H1

theorem wb_join (c : Dev nD) :
    (iprop((∃ f, wbPts c 0 f) ∗ (∃ f, wbPts c 1 f)) : sProp 𝕄)
      ⊢ iprop(∃ f : (cc0_scratch2 : Ref sig .tc).ty.Contents (Elt F), ((c : Thread nD τ).loc cc0_scratch2) ↦{fullShare} f) := by
  refine (join2 (F := F) ((c : Thread nD τ).loc cc0_scratch2) (fibers_disjoint (fun i : S2x512x2048.Idx => (i 0).val) (k := 0) (k' := 1) (by decide))).trans ?_
  have e := cover2 (fun i : S2x512x2048.Idx => (i 0).val) (fun i => (i 0).isLt)
  iintro ⟨%f, H⟩
  iexists f
  iapply (Entails.of_eq (congrArg (fun I => (((c : Thread nD τ).loc cc0_scratch2) ↦[I]{fullShare} f : sProp 𝕄)) e.symm))
  iexact H

/-- The weight matrix is its four row blocks. -/
theorem wr_split (c : Dev nD) :
    (((c : Thread nD τ).loc main_arg1) ↦{fullShare} wmat m ρ c : sProp 𝕄)
      ⊣⊢ iprop(wrPts m ρ c c ∗ wrPts m ρ c (nx 1 c) ∗ wrPts m ρ c (nx 2 c) ∗ wrPts m ρ c (nx 3 c)) :=
  split4 (F := F) ((c : Thread nD τ).loc main_arg1) (fun i => (i 0).val / 512)
    (fun i => Nat.div_lt_of_lt_mul (show (i 0).val < 512 * 4 from (i 0).isLt)) c (wmat m ρ c)

end Cert.AllToAll

end

end
-- ==== Proof.Body.lean ====
/- The kernel's whole body on one device: from what the launch hands it to the result buffer holding the device's rows of the
   product, every semaphore at zero. -/
module

public import proofs.«01_k».proof.Proof.Parts
public import proofs.«01_k».proof.Proof.Pieces

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 8 → ℕ)

section Body

omit [FloatOps F] in
theorem bigSep_W (Φ : Fin cfg0.W → sProp 𝕄) : bigSep Finset.univ Φ = iprop(Φ (0 : Fin 2) ∗ Φ (1 : Fin 2)) := bigSep_W0 Φ

theorem fetch_x (t : Fin cfg0.N) : (cfg0.win (0 : Fin 2)).fetch t = true := by rw [fin_N t]; rfl

/-- A buffer of the device held whole at contents `X`. -/
abbrev heldAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄) = heldAt c b X := by
  unfold owns; simp only [Memref.view_whole, View.read_whole, View.set_whole]

theorem recvPay_some (c s : Dev nD) : recvPay m ρ c s ⊢ iprop(∃ f, cmPts (F := F) c s f) := by
  unfold recvPay
  iintro ⟨%f, H⟩
  iexists _
  iexact H

/-- A sequence runs by running its first program and then the rest. -/
theorem runs_bind (c : Dev nD) {α β : Type} (p : Prog (TpuEff nD τ sig (Elt F) Λ₀ .tc) α) (k : α → Prog (TpuEff nD τ sig (Elt F) Λ₀ .tc) β)
    (Q : β → sProp 𝕄) : runs c (p >>= k) Q = runs c p (fun a => runs c (k a) Q) := wp_bind _ _ _ p k Q

/-- What the body starts from, and what it ends with. -/
def bodyPre (c : Dev nD) : sProp 𝕄 :=
  iprop(Φ₀ m ρ c ∗ (dats m ρ 0 c).owesAt () t₀.castSucc
    ∗ (∃ d, heldAt c cc0_stg0_0 ((dats m ρ 0 c).before (0 : Fin 2) t₀ d))
    ∗ (∃ d, heldAt c cc0_stg1_0 ((dats m ρ 0 c).before (1 : Fin 2) t₀ d)))
def bodyPost (c : Dev nD) : sProp 𝕄 :=
  iprop(Φ₁ m ρ c ∗ (dats m ρ 0 c).owesAt () t₀.succ ∗ heldAt c cc0_stg0_0 (xstg m ρ c) ∗ heldAt c cc0_stg1_0 (outAt m ρ c))

/-- What is in hand at the body's start, laid out by use, -/
def handPre (c : Dev nD) (f : (cc0_stg1_0 : Ref sig .tc).ty.Contents (Elt F)) : sProp 𝕄 :=
  iprop(positions c ∗ payToks c ∗ wSems c ∗ credits c ∗ levAts L lv
    ∗ (((c : Thread nD τ).loc main_arg1) ↦{fullShare} wmat m ρ c) ∗ scratch c ∗ ow c (O₀ c) ∗ xPts m ρ c ∗ oPts c f)
/-- and at its end. -/
def handPost (c : Dev nD) : sProp 𝕄 := iprop(Φ₁ m ρ c ∗ ow c 0 ∗ xPts m ρ c ∗ oPts c (outAt m ρ c))

set_option maxHeartbeats 1600000 in
set_option maxRecDepth 4000 in
/-- The body runs, part by part, to the result: the device's rows of the product, cut off below at zero. -/
theorem body_runs (c : Dev nD) (f : (cc0_stg1_0 : Ref sig .tc).ty.Contents (Elt F)) (Kt : PUnit → sProp 𝕄) :
    iprop(records m ρ K ∗ handPre m ρ c f)
      ⊢ iprop((handPost m ρ c -∗ Kt ⟨⟩) -∗ runs c (cc0_body (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5) Kt) := by
  rw [cc0_body_eq_skeleton]; unfold cc0_body_skel
  unfold handPre positions payToks wSems credits scratch
  iintro ⟨#HR, ⟨HatB, ⟨HatS1, HatS2, HatS3⟩, HatC, HatR1, HatR2, HatR3⟩, ⟨⟨HtB1, HtB2, HtB3⟩, ⟨HtS1, HtS2, HtS3⟩, HtR1, HtR2, HtR3⟩,
    ⟨Hv0, Hv1⟩, ⟨HcB, HcR1, HcR2, HcR3⟩, #Hlev, Hw, ⟨Hst, Hcm, Hwb⟩, HO, Hx, Ho⟩ Hk
  ihave Hst := (st_split c) $$ Hst
  icases Hst with ⟨Hs0, Hs1, Hs2, Hs3⟩
  ihave Hcm := (cm_split c) $$ Hcm
  icases Hcm with ⟨Hm0, Hm1, Hm2, Hm3⟩
  ihave Hwb := (wb_split c) $$ Hwb
  icases Hwb with ⟨Hb0, Hb1⟩
  ihave Hw := (wr_split m ρ c).1 $$ Hw
  icases Hw with ⟨Hw0, Hw1, Hw2, Hw3⟩
  rw [runs_bind]
  iapply (part1_runs m ρ K c _) $$ [Hw0 Hb0 Hv0 HO HtB1 HtB2 HtB3 Hm1 Hm2 Hm3 Hx]
  · isplitr; · iexact HR
    isplitl [Hw0]; · iexact Hw0
    isplitl [Hb0]; · iexact Hb0
    isplitl [Hv0]; · iexact Hv0
    isplitl [HO]; · iexact HO
    isplitl [HtB1]; · iexact HtB1
    isplitl [HtB2]; · iexact HtB2
    isplitl [HtB3]; · iexact HtB3
    isplitl [Hm1]; · iexact Hm1
    isplitl [Hm2]; · iexact Hm2
    isplitl [Hm3]; · iexact Hm3
    iexact Hx
  iintro %v2 ⟨Hf0, HO, Hx⟩
  try dsimp only
  rw [runs_bind]
  iapply (part2_runs m ρ K c _ _) $$ [Hlev Hs1 Hs2 HcB HO HatB HtS1 HtR1 Hx]
  · isplitr; · iexact HR
    isplitr; · iexact Hlev
    isplitl [Hs1]; · iexact Hs1
    isplitl [Hs2]; · iexact Hs2
    isplitl [HcB]; · iexact HcB
    isplitl [HO]; · iexact HO
    isplitl [HatB]; · iexact HatB
    isplitl [HtS1]; · iexact HtS1
    isplitl [HtR1]; · iexact HtR1
    iexact Hx
  iintro %v56 ⟨HcS1, HO, HzB, Hc2, Hc3, Hs2, Hx⟩
  try dsimp only
  rw [runs_bind]
  iapply (part3_runs m ρ K c _ _ _) $$ [Hs2 Hs3 Hc2 Hc3 HO HtS2 HtR2 HtS3 HtR3 Hx]
  · isplitr; · iexact HR
    isplitl [Hs2]; · iexact Hs2
    isplitl [Hs3]; · iexact Hs3
    isplitl [Hc2]; · iexact Hc2
    isplitl [Hc3]; · iexact Hc3
    isplitl [HO]; · iexact HO
    isplitl [HtS2]; · iexact HtS2
    isplitl [HtR2]; · iexact HtR2
    isplitl [HtS3]; · iexact HtS3
    isplitl [HtR3]; · iexact HtR3
    iexact Hx
  iintro ⟨HcS2, HcS3, HO, Hx⟩
  try dsimp only
  rw [runs_bind]
  iapply (part4_runs m ρ K c _ f _) $$ [Hf0 Hw1 Hb1 Hv1 HO Hx Ho]
  · isplitr; · iexact HR
    isplitl [Hf0]; · iexact Hf0
    isplitl [Hw1]; · iexact Hw1
    isplitl [Hb1]; · iexact Hb1
    isplitl [Hv1]; · iexact Hv1
    isplitl [HO]; · iexact HO
    isplitl [Hx]; · iexact Hx
    iexact Ho
  iintro ⟨Hf1, Hb0, Hw0, Hv0, HO, Hx, Ho⟩
  try dsimp only
  ihave Hb0 := (wbFull_some m ρ c 0 c) $$ Hb0
  rw [runs_bind]
  iapply (part5_runs m ρ K c _ _) $$ [Hf1 Hb0 Hw2 Hv0 HcR1 HatR1 HO Ho]
  · isplitr; · iexact HR
    isplitl [Hf1]; · iexact Hf1
    isplitl [Hb0]; · iexact Hb0
    isplitl [Hw2]; · iexact Hw2
    isplitl [Hv0]; · iexact Hv0
    isplitl [HcR1]; · iexact HcR1
    isplitl [HatR1]; · iexact HatR1
    isplitl [HO]; · iexact HO
    iexact Ho
  iintro %v146 %v5 ⟨Hf0, Hb1, Hw1, Hv1, HzR1, HpR1, HO, Ho⟩
  try dsimp only
  ihave Hb1 := (wbFull_some m ρ c 1 (nx 1 c)) $$ Hb1
  rw [runs_bind]
  iapply (part6_runs m ρ K c _ _ _ _) $$ [Hf0 Hb1 Hw3 Hv1 HcR2 HatR2 HO Ho]
  · isplitr; · iexact HR
    isplitl [Hf0]; · iexact Hf0
    isplitl [Hb1]; · iexact Hb1
    isplitl [Hw3]; · iexact Hw3
    isplitl [Hv1]; · iexact Hv1
    isplitl [HcR2]; · iexact HcR2
    isplitl [HatR2]; · iexact HatR2
    isplitl [HO]; · iexact HO
    iexact Ho
  iintro ⟨Hf1, Hb0, Hw2, Hv0, HzR2, HpR2, HO, Ho⟩
  try dsimp only
  ihave Hb0 := (wbFull_some m ρ c 0 (nx 2 c)) $$ Hb0
  rw [runs_bind]
  iapply (part7_runs m ρ K c _ _) $$ [Hf1 HcR3 HatR3 HO Ho]
  · isplitr; · iexact HR
    isplitl [Hf1]; · iexact Hf1
    isplitl [HcR3]; · iexact HcR3
    isplitl [HatR3]; · iexact HatR3
    isplitl [HO]; · iexact HO
    iexact Ho
  iintro ⟨Hb1, Hw3, Hv1, HzR3, HpR3, HO, Ho⟩
  try dsimp only
  ihave Hb1 := (wbFull_some m ρ c 1 (nx 3 c)) $$ Hb1
  simp only [Prog.lift, Prog.bind_op, Prog.bind_ret, Prog.pure_eq_ret]
  iapply (o_load c _) $$ Ho
  iintro Ho
  iapply (o_load c _) $$ Ho
  iintro Ho
  iapply (o_store c _ (outAt m ρ c)) $$ Ho
  iintro Ho
  iapply (send_wait m ρ K c 0 (sendSem_eq 0 rfl _) (by rfl)) $$ [HcS1 HO HatS1]
  · isplitr; · iexact HR
    isplitl [HcS1]; · iexact HcS1
    isplitl [HO]; · iexact HO
    iexact HatS1
  iintro ⟨HO, HzS1, HpS1⟩
  iapply (send_wait m ρ K c 1 (sendSem_eq 1 rfl _) (by rfl)) $$ [HcS2 HO HatS2]
  · isplitr; · iexact HR
    isplitl [HcS2]; · iexact HcS2
    isplitl [HO]; · iexact HO
    iexact HatS2
  iintro ⟨HO, HzS2, HpS2⟩
  iapply (send_wait m ρ K c 2 (sendSem_eq 2 rfl _) (by rfl)) $$ [HcS3 HO HatS3]
  · isplitr; · iexact HR
    isplitl [HcS3]; · iexact HcS3
    isplitl [HO]; · iexact HO
    iexact HatS3
  iintro ⟨HO, HzS3, HpS3⟩
  imod (Rounds.cell_close ER (Rd m ρ) (Set.mem_univ (K (c, kR c))) (fun h => h) (R := 0) (duties_self_all m ρ c)) $$ [HatC] with HzC
  · isplitr; · iapply (inv_recv m ρ K c c); iexact HR
    iexact HatC
  rw [wp_ret]; imodintro
  iapply Hk
  ihave HpR1 := (recvPay_some m ρ c (nx 1 c)) $$ HpR1
  ihave HpR2 := (recvPay_some m ρ c (nx 2 c)) $$ HpR2
  ihave HpR3 := (recvPay_some m ρ c (nx 3 c)) $$ HpR3
  ihave HpS1 := (Entails.of_eq (show sendPay (F := F) c ((0 : Fin 3).val + 1) = iprop(∃ f, stPts c 1 f) from rfl)) $$ HpS1
  ihave HpS2 := (Entails.of_eq (show sendPay (F := F) c ((1 : Fin 3).val + 1) = iprop(∃ f, stPts c 2 f) from rfl)) $$ HpS2
  ihave HpS3 := (Entails.of_eq (show sendPay (F := F) c ((2 : Fin 3).val + 1) = iprop(∃ f, stPts c 3 f) from rfl)) $$ HpS3
  unfold handPost Φ₁ semsBack wSems scratch
  isplitl [HzB HzS1 HzS2 HzS3 HzC HzR1 HzR2 HzR3 Hv0 Hv1 Hw0 Hw1 Hw2 Hw3 Hs0 HpS1 HpS2 HpS3 Hm0 HpR1 HpR2 HpR3 Hb0 Hb1]
  · isplitl [HzB HzS1 HzS2 HzS3 HzC HzR1 HzR2 HzR3 Hv0 Hv1]
    · isplitl [HzB]; · iexact HzB
      isplitl [HzS1 HzS2 HzS3]
      · isplitl [HzS1]; · iexact HzS1
        isplitl [HzS2]; · iexact HzS2
        iexact HzS3
      isplitl [HzC HzR1 HzR2 HzR3]
      · isplitl [HzC]; · iexact HzC
        isplitl [HzR1]; · iexact HzR1
        isplitl [HzR2]; · iexact HzR2
        iexact HzR3
      isplitl [Hv0]; · iexact Hv0
      iexact Hv1
    isplitl [Hw0 Hw1 Hw2 Hw3]
    · iapply (wr_split m ρ c).2
      isplitl [Hw0]; · iexact Hw0
      isplitl [Hw1]; · iexact Hw1
      isplitl [Hw2]; · iexact Hw2
      iexact Hw3
    isplitl [Hs0 HpS1 HpS2 HpS3]
    · iapply (st_join c)
      isplitl [Hs0]; · iexact Hs0
      isplitl [HpS1]; · iexact HpS1
      isplitl [HpS2]; · iexact HpS2
      iexact HpS3
    isplitl [Hm0 HpR1 HpR2 HpR3]
    · iapply (cm_join c)
      isplitl [Hm0]; · iexact Hm0
      isplitl [HpR1]; · iexact HpR1
      isplitl [HpR2]; · iexact HpR2
      iexact HpR3
    iapply (wb_join c)
    isplitl [Hb0]; · iexact Hb0
    iexact Hb1
  isplitl [HO]; · iexact HO
  isplitl [Hx]; · iexact Hx
  iexact Ho

/-- The body as the launch states it. -/
theorem sound_body (c : Dev nD) :
    bodyPre m ρ c ⊢ runs c (cc0_body (F := F) xM (Memref.isWhole_whole _) wM (Memref.isWhole_whole _) oM (Memref.isWhole_whole _) sM (Memref.isWhole_whole _)
            cM (Memref.isWhole_whole _) bM (Memref.isWhole_whole _) cc0_scratch3 cc0_scratch4 cc0_scratch5) (fun _ => bodyPost m ρ c) := by
  unfold bodyPre Φ₀ start ghost
  iintro ⟨⟨⟨⟨%K, #HR, Hpos, Htok, Hv⟩, Hcred, Hlev, Hw⟩, Hscr⟩, Ho, ⟨%d0, %g0, %hg0, Hx⟩, ⟨%d1, %g1, %hg1, Hout⟩⟩
  have hx : g0 = xstg m ρ c := by rw [hg0]; unfold Dat.before; rw [if_pos (fetch_x t₀)]; rfl
  subst hx
  unfold Dat.owesAt Pipeline.owesWithin
  icases Ho with ⟨%W, %hW, HO⟩
  rw [show (dats m ρ 0 c).owed t₀.castSucc = O₀ c from rfl]
  iapply (body_runs m ρ K c g1 _) $$ [Hpos Htok Hv Hcred Hlev Hw Hscr HO Hx Hout]
  · isplitr; · iexact HR
    unfold handPre ow xPts oPts
    isplitl [Hpos]; · iexact Hpos
    isplitl [Htok]; · iexact Htok
    isplitl [Hv]; · iexact Hv
    isplitl [Hcred]; · iexact Hcred
    isplitl [Hlev]; · iexact Hlev
    isplitl [Hw]; · iexact Hw
    isplitl [Hscr]; · iexact Hscr
    isplitl [HO]; · iexists W; iexact HO
    isplitl [Hx]; · iexact Hx
    iexact Hout
  unfold handPost bodyPost ow xPts oPts Dat.owesAt Pipeline.owesWithin
  rw [show (dats m ρ 0 c).owed t₀.succ = 0 from rfl]
  iintro ⟨HΦ, ⟨%W', HO⟩, Hx, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_buffer]
  exact sound_body m ρ c

end Body

end Cert.AllToAll

end

end
-- ==== Proof.Ghosts.lean ====
/- The launch's ghost state: what every device starts from is allocated for all of them at once – each cell's invariant, the
   positions in the cells, the tokens of the duties dealt to the devices that pay them. -/
module

public import proofs.«01_k».proof.Proof.Protocol
public import Idealize.ShloMosaic.Lib.Pipeline.Launch
public import Idealize.ShloMosaic.Lib.Pipeline.Kit

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and cells, listed -/

/-- The kernel's own semaphores: three for sends, four for arrivals, two for the weight blocks. -/
abbrev osem : Fin 9 → SemLoc sig := fun
  | 0 => .dma (sendS 0) | 1 => .dma (sendS 1) | 2 => .dma (sendS 2)
  | 3 => .dma (recvS 0) | 4 => .dma (recvS 1) | 5 => .dma (recvS 2) | 6 => .dma (recvS 3)
  | 7 => .dma w0S | 8 => .dma w1S

set_option backward.proofsInPublic true in
/-- The place of an arrival's semaphore among the kernel's own. -/
def kO (s : Dev nD) : Fin 9 := ⟨s.val + 3, by have : s.val < 4 := s.isLt; omega⟩

theorem osem_O (s : Dev nD) : osem (kO s) = .dma (recvS s) := by revert s; decide

theorem ownSemFacts : Pipeline.OwnSemFacts cfg0.spec osem := by decide

theorem own_list (c : Dev nD) : (Finset.univ : Finset (Fin 9)) = [0, 1, 2, kO c, kO (nx 1 c), kO (nx 2 c), kO (nx 3 c), 7, 8].toFinset := by
  revert c; decide
theorem own_nodup (c : Dev nD) : [0, 1, 2, kO c, kO (nx 1 c), kO (nx 2 c), kO (nx 3 c), 7, 8].Nodup := by revert c; decide
theorem cell_list (c : Dev nD) : (Finset.univ : Finset (Fin 8)) = [0, kS 0, kS 1, kS 2, kR c, kR (nx 1 c), kR (nx 2 c), kR (nx 3 c)].toFinset := by
  revert c; decide
theorem cell_nodup (c : Dev nD) : [0, kS 0, kS 1, kS 2, kR c, kR (nx 1 c), kR (nx 2 c), kR (nx 3 c)].Nodup := by revert c; decide

theorem kcell_S (c : Dev nD) (k : Fin 3) : kcell (c, kS k) = sendCell c k := congrArg _ (csem_S k)
theorem kcell_R (c s : Dev nD) : kcell (c, kR s) = recvCell c s := congrArg _ (csem_R s)

omit [FloatOps F] in
/-- A product over a device's cells, written out. -/
theorem cells_eq (c : Dev nD) (Φ : GSem nD τ sig → sProp 𝕄) :
    (bigSep Finset.univ fun k : Fin 8 => Φ (kcell (c, k)))
      = iprop(Φ (barCell c) ∗ Φ (sendCell c 0) ∗ Φ (sendCell c 1) ∗ Φ (sendCell c 2)
          ∗ Φ (recvCell c c) ∗ Φ (recvCell c (nx 1 c)) ∗ Φ (recvCell c (nx 2 c)) ∗ Φ (recvCell c (nx 3 c))) := by
  rw [bigSep_univ_eq_bigSepL _ (cell_list c) (cell_nodup c)]
  simp only [bigSepL_cons_cons, bigSepL_singleton, kcell_S, kcell_R]
  rfl

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c c) 0 ∗ semVal (recvCell c (nx 1 c)) 0 ∗ semVal (recvCell c (nx 2 c)) 0 ∗ semVal (recvCell c (nx 3 c)) 0
        ∗ semVal (w0Cell c) 0 ∗ semVal (w1Cell c) 0) := by
  rw [Pipeline.ownSems0_eq_of_list c osem _ (own_list c) (own_nodup c)]
  simp only [bigSepL_cons_cons, bigSepL_singleton, osem_O]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The launch's semaphores at zero are the cells' counters and the two weight semaphores. -/
theorem counters (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 8 => semVal (kcell (c, k)) 0) ∗ wSems c) : sProp 𝕄) := by
  rw [ownSems0_eq, unscopedSems0_eq, cells_eq c (fun g => semVal g 0)]
  unfold wSems
  iintro ⟨⟨H1, H2, H3, H4, H5, H6, H7, H8, H9⟩, HB⟩
  isplitl [H1 H2 H3 H4 H5 H6 H7 HB]
  · isplitl [HB]; · iexact HB
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  iexact H9

/-! ## The initial element -/

theorem kcell_injective : Function.Injective (kcell : Dev nD × Fin 8 → GSem nD τ sig) := by
  rintro ⟨c, k⟩ ⟨c', k'⟩ h
  have h1 : c = c' := congrArg (fun g : GSem nD τ sig => g.1.1) h
  subst h1
  have h2 : csem k = csem k' := congrArg Prod.snd h
  have inj : ∀ k k', csem k = csem k' → k = k' := by decide
  rw [inj k k' h2]
def allCells : Finset (GSem nD τ sig) := Finset.univ.map ⟨kcell, kcell_injective⟩

/-- The duties of a device's own cells: the semaphore and the duty's name. -/
abbrev ownDuty (c : Dev nD) : Fin 9 → SemLoc sig × Fin 4 := fun
  | 0 => (.reg barS, 1) | 1 => (.reg barS, 2) | 2 => (.reg barS, 3)
  | 3 => (.dma (sendS 0), 0) | 4 => (.dma (sendS 1), 0) | 5 => (.dma (sendS 2), 0)
  | 6 => (.dma (recvS (nx 1 c)), 0) | 7 => (.dma (recvS (nx 2 c)), 0) | 8 => (.dma (recvS (nx 3 c)), 0)
theorem ownDuty_inj : ∀ (c : Dev nD) j j', ownDuty c j = ownDuty c j' → j = j' := by decide

abbrev tokOf (cj : Dev nD × Fin 9) : GSem nD τ sig × ℕ × Fin 4 := (((cj.1 : Thread nD τ), (ownDuty cj.1 cj.2).1), 0, (ownDuty cj.1 cj.2).2)
theorem tokOf_injective : Function.Injective (tokOf : Dev nD × Fin 9 → GSem nD τ sig × ℕ × Fin 4) := by
  rintro ⟨c, j⟩ ⟨c', j'⟩ h
  have h1 : c = c' := congrArg (fun x : GSem nD τ sig × ℕ × Fin 4 => x.1.1.1) h
  subst h1
  have h2 : ownDuty c j = ownDuty c j' :=
    Prod.ext (congrArg (fun x : GSem nD τ sig × ℕ × Fin 4 => x.1.2) h) (congrArg (fun x : GSem nD τ sig × ℕ × Fin 4 => x.2.2) h)
  rw [ownDuty_inj c j j' h2]
def allToks : Finset (GSem nD τ sig × ℕ × Fin 4) := Finset.univ.map ⟨tokOf, tokOf_injective⟩

def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop((dutyTok ER (barCell c) 0 1 ∗ dutyTok ER (barCell c) 0 2 ∗ dutyTok ER (barCell c) 0 3)
    ∗ (dutyTok ER (sendCell c 0) 0 0 ∗ dutyTok ER (sendCell c 1) 0 0 ∗ dutyTok ER (sendCell c 2) 0 0)
    ∗ dutyTok ER (recvCell c (nx 1 c)) 0 0 ∗ dutyTok ER (recvCell c (nx 2 c)) 0 0 ∗ dutyTok ER (recvCell c (nx 3 c)) 0 0)

/-- What the initial element deals device `c`. -/
def G (c : Dev nD) : sProp 𝕄 :=
  iprop((bigSep Finset.univ fun k : Fin 8 => roundState ER (Rd m ρ) (kcell (c, k)) 0)
    ∗ (bigSep Finset.univ fun k : Fin 8 => iprop(atPos ER (kcell (c, k)) 0 ∅ 0 ∗ reached ER (kcell (c, k)) 0)) ∗ toks c)

/-- What the allocation makes of it. -/
def G' (c : Dev nD) : sProp 𝕄 := iprop(∃ K, ghost m ρ K c)

omit [FloatOps F] in
theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem toks_of (c : Dev nD) :
    (bigSep Finset.univ fun j : Fin 9 => (dutyTok ER (tokOf (c, j)).1 (tokOf (c, j)).2.1 (tokOf (c, j)).2.2 : sProp 𝕄)) ⊢ toks c := by
  rw [bigSep_nine]
  unfold toks
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod]
    exact bigSep_mono fun c _ => toks_of c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The allocation -/

/-- On one device: its cells' invariants from their counters. -/
theorem device_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ wSems c) := by
  unfold G
  iintro ⟨Hos, Hus, Hst, Hat, Htok⟩
  ihave Hv := (counters (F := F) c) $$ [Hos Hus]
  · isplitl [Hos] <;> iassumption
  icases Hv with ⟨Hv, Hw⟩
  imod (show iprop((bigSep Finset.univ fun k : Fin 8 => semVal (kcell (c, k)) 0) ∗ bigSep Finset.univ fun k : Fin 8 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hw

/-- Going `k` places on, a permutation of the devices. -/
def rot (k k' : Fin 4) (h : ∀ c, nx k' (nx k c) = c) (h' : ∀ c, nx k (nx k' c) = c) : Dev nD ≃ Dev nD := ⟨nx k, nx k', h, h'⟩

omit [FloatOps F] in
/-- Something held for each device about the device `k'` places on, dealt to the latter. -/
theorem around (k k' : Fin 4) (h : ∀ c, nx k' (nx k c) = c) (h' : ∀ c, nx k (nx k' c) = c) (Φ : Dev nD → Dev nD → sProp 𝕄) :
    (bigSep Finset.univ fun c : Dev nD => Φ c (nx k' c)) = bigSep Finset.univ fun d : Dev nD => Φ (nx k d) d := by
  rw [bigSep_univ_equiv (rot k k' h h')]
  exact bigSep_congr fun d _ => by rw [show rot k k' h h' d = nx k d from rfl, h]

omit [FloatOps F] in
/-- Each duty's token goes to the device that pays it. -/
theorem toks_around : (bigSep Finset.univ fun c : Dev nD => (toks c : sProp 𝕄)) ⊢ bigSep Finset.univ fun c : Dev nD => payToks c := by
  unfold toks payToks
  simp only [bigSep_sep']
  iintro ⟨⟨HB1, HB2, HB3⟩, HS, HR1, HR2, HR3⟩
  ihave HB1 := (Entails.of_eq (around 3 1 nx_nx_13 nx_nx_31 fun c _ => (dutyTok ER (barCell c) 0 1 : sProp 𝕄))) $$ HB1
  ihave HB2 := (Entails.of_eq (around 2 2 nx_nx_22 nx_nx_22 fun c _ => (dutyTok ER (barCell c) 0 2 : sProp 𝕄))) $$ HB2
  ihave HB3 := (Entails.of_eq (around 1 3 nx_nx_31 nx_nx_13 fun c _ => (dutyTok ER (barCell c) 0 3 : sProp 𝕄))) $$ HB3
  ihave HR1 := (Entails.of_eq (around 3 1 nx_nx_13 nx_nx_31 fun c s => (dutyTok ER (recvCell c s) 0 0 : sProp 𝕄))) $$ HR1
  ihave HR2 := (Entails.of_eq (around 2 2 nx_nx_22 nx_nx_22 fun c s => (dutyTok ER (recvCell c s) 0 0 : sProp 𝕄))) $$ HR2
  ihave HR3 := (Entails.of_eq (around 1 3 nx_nx_31 nx_nx_13 fun c s => (dutyTok ER (recvCell c s) 0 0 : sProp 𝕄))) $$ HR3
  isplitl [HB1 HB2 HB3]
  · isplitl [HB3]; · iexact HB3
    isplitl [HB2]; · iexact HB2
    iexact HB1
  isplitl [HS]; · iexact HS
  isplitl [HR3]; · iexact HR3
  isplitl [HR2]; · iexact HR2
  iexact HR1

omit [FloatOps F] in
theorem positions_of (c : Dev nD) : (bigSep Finset.univ fun k : Fin 8 => (atPos ER (kcell (c, k)) 0 ∅ 0 : sProp 𝕄)) ⊢ positions c := by
  rw [cells_eq c (fun g => atPos ER g 0 ∅ 0)]
  unfold positions
  iintro ⟨HB, H1, H2, H3, HR⟩
  isplitl [HB]; · iexact HB
  isplitl [H1 H2 H3]
  · isplitl [H1]; · iexact H1
    isplitl [H2]; · iexact H2
    iexact H3
  iexact HR

omit [FloatOps F] in
/-- Something every device may copy goes to each of them. -/
theorem bigSep_copied {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Fin 8 → ℕ) (c : Dev nD) : iprop(records m ρ K ∗ positions c ∗ payToks c ∗ wSems c) ⊢ G' m ρ c := by
  unfold G' ghost
  iintro H
  iexists K
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c ∗ wSems c) : sProp 𝕄)
      ⊢ bigSep Finset.univ (G' m ρ) := by
  rw [bigSep_sep', bigSep_sep', bigSep_sep', ← bigSep_univ_prod (fun ck : Dev nD × Fin 8 => iprop(∃ κ : ℕ, cellInv ER (Rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok, Hw⟩
  ihave HK := (BI.bigSep_exists_pi Finset.univ (fun (ck : Dev nD × Fin 8) (κ : ℕ) => (cellInv ER (Rd m ρ) κ (kcell ck) : sProp 𝕄))) $$ HI
  icases HK with ⟨%K, #HI⟩
  ihave Htk := (toks_around (F := F)) $$ Htok
  ihave Hpos := (show (bigSep Finset.univ fun c : Dev nD => bigSep Finset.univ fun k : Fin 8 => (atPos ER (kcell (c, k)) 0 ∅ 0 : sProp 𝕄))
      ⊢ bigSep Finset.univ fun c : Dev nD => positions c from bigSep_mono fun c _ => positions_of (F := F) c) $$ Hat
  iapply (bigSep_copied (R := records m ρ K) fun c _ => deal m ρ K c)
  isplitr
  · unfold records; isplitl; · iexact HI
    iexact HR
  · rw [bigSep_sep', bigSep_sep']
    isplitl [Hpos]; · iexact Hpos
    isplitl [Htk]; · iexact Htk
    iexact Hw

/-- Every device's semaphores and its share of the initial element become what it starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => device_alloc m ρ c).trans (bigSep_fupd _ _)).trans (BI.fupd_mono (regroup m ρ))

end Cert.AllToAll

end

end
-- ==== Proof.Launch.lean ====
/- The run of the whole kernel: every device terminates, its result array holds its rows of the product, its arguments are
   unchanged, and every semaphore is back at zero. -/
module

public import proofs.«01_k».proof.Proof.Body
public import proofs.«01_k».proof.Proof.Ghosts
public import Idealize.ShloMosaic.Lib.Quiescent
public import Idealize.ShloMosaic.Lib.Pipeline.CollectiveSegs
public import Idealize.ShloMosaic.Lib.Pipeline.KitQuiescent

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit of the launch -/

omit [FloatOps F] in
theorem bar_eq {a b : Dev nD} : barCell a = barCell b ↔ a = b :=
  ⟨fun h => congrArg (fun g : GSem nD τ sig => g.1.1) h, fun h => h ▸ rfl⟩
theorem recvS_inj : ∀ s s', recvS s = recvS s' → s = s' := by decide
omit [FloatOps F] in
theorem recv_eq {a b s t : Dev nD} : recvCell a s = recvCell b t ↔ a = b ∧ s = t :=
  ⟨fun h => ⟨congrArg (fun g : GSem nD τ sig => g.1.1) h,
    recvS_inj s t (SemLoc.dma.inj (congrArg (fun g : GSem nD τ sig => g.2) h))⟩, fun h => by rw [h.1, h.2]⟩
omit [FloatOps F] in
theorem bar_ne_recv (a b s : Dev nD) : barCell a ≠ recvCell b s := fun h =>
  (by simp : (SemLoc.reg barS : SemLoc sig) ≠ .dma (recvS s)) (congrArg (fun g : GSem nD τ sig => g.2) h)

theorem owed_bar (d c : Dev nD) : O₀ d (barCell c) () = (if nx 3 d = c then 1 else 0) + (if nx 2 d = c then 1 else 0) + (if nx 1 d = c then 1 else 0) := by
  unfold O₀ OR
  simp only [Pi.add_apply, Finsupp.add_apply, tallyAt_apply, bar_eq, bar_ne_recv, false_and, if_false, and_true, Nat.zero_add, eq_comm (a := c)]

theorem owed_recv (d c s : Dev nD) : O₀ d (recvCell c s) ()
    = (if nx 3 d = c ∧ d = s then N else 0) + (if nx 2 d = c ∧ d = s then N else 0) + (if nx 1 d = c ∧ d = s then N else 0) := by
  unfold O₀ OR
  simp only [Pi.add_apply, Finsupp.add_apply, tallyAt_apply, recv_eq, (bar_ne_recv _ _ _).symm, false_and, if_false, and_true, Nat.add_zero,
    eq_comm (a := c), eq_comm (a := s)]

theorem sum_bar (c : Dev nD) : (∑ d : Dev nD, ((if nx 3 d = c then 1 else 0) + (if nx 2 d = c then 1 else 0) + (if nx 1 d = c then 1 else 0))) = 3 := by
  revert c; decide

/-- Exactly one device owes a given device the tile of a given peer. -/
theorem sum_recv (n : ℕ) (c s : Dev nD) (h : s ≠ c) :
    (∑ d : Dev nD, ((if nx 3 d = c ∧ d = s then n else 0) + (if nx 2 d = c ∧ d = s then n else 0) + (if nx 1 d = c ∧ d = s then n else 0))) = n := by
  rw [Finset.sum_eq_single s (fun d _ hd => by simp only [hd, and_false, if_false, add_zero]) (fun hs => absurd (Finset.mem_univ s) hs)]
  have hk : ∀ c s : Dev nD, s ≠ c → (nx 3 s = c ∧ nx 2 s ≠ c ∧ nx 1 s ≠ c) ∨ (nx 3 s ≠ c ∧ nx 2 s = c ∧ nx 1 s ≠ c) ∨ (nx 3 s ≠ c ∧ nx 2 s ≠ c ∧ nx 1 s = c) := by
    decide
  rcases hk c s h with ⟨h1, h2, h3⟩ | ⟨h1, h2, h3⟩ | ⟨h1, h2, h3⟩ <;> simp [h1, h2, h3]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, sum_bar]

theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, sum_recv N c s h]

theorem waited_nodup (c : Dev nD) : [SemLoc.reg (sig := sig) barS, .dma (recvS (nx 1 c)), .dma (recvS (nx 2 c)), .dma (recvS (nx 3 c))].Nodup := by
  revert c; decide

theorem creds (c : Dev nD) : (Pipeline.launchCred O₀ c : sProp 𝕄) ⊢ credits c := by
  unfold Pipeline.launchCred credits
  refine (BI.bigSep_subset (Finset.subset_univ
    [SemLoc.reg (sig := sig) barS, .dma (recvS (nx 1 c)), .dma (recvS (nx 2 c)), .dma (recvS (nx 3 c))].toFinset)).trans ?_
  rw [bigSep_eq_bigSepL_of_eq _ rfl (waited_nodup c)]
  simp only [bigSepL_cons_cons, bigSepL_singleton]
  rw [launch_bar, launch_recv c _ (nx1_ne c), launch_recv c _ (nx2_ne c), launch_recv c _ (nx3_ne c)]
  exact BI.Entails.refl _

/-! ## The conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What is kept of a device after the run: its barrier counter at zero and the weight matrix it was given. -/
def kept (c : Dev nD) : sProp 𝕄 := iprop(unscopedSems0 c ∗ (((c : Thread nD τ).loc main_arg1) ↦{fullShare} wmat m ρ c))

theorem phi1_exit (c : Dev nD) :
    (dats m ρ 0 c).Φ (Fin.last cfg0.N) ⊢ iprop(kept m ρ c ∗ Pipeline.ownSems0 osem c ∗ Pipeline.scopedRest cfg0.spec c) := by
  unfold kept
  rw [show (dats m ρ 0 c).Φ (Fin.last cfg0.N) = Φ₁ m ρ c from rfl, scopedRest0_eq, ownSems0_eq, unscopedSems0_eq]
  unfold Φ₁ semsBack wSems scratch
  iintro ⟨⟨HB, ⟨H1, H2, H3⟩, ⟨H4, H5, H6, H7⟩, H8, H9⟩, Hw, Hr⟩
  isplitl [HB Hw]
  · isplitl [HB]; · iexact HB
    iexact Hw
  isplitl [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is kept read off the final memory. -/
theorem kept_read (c : Dev nD) (s' : Phys nD τ sig (Elt F)) :
    iprop(kept m ρ c ∗ emp ∗ SI s') ⊢ |={Set.univ}=> (iprop(⌜(∀ sm : SemLoc sig, sm.isScoped .tc = false → s'.mem.sem ((c.tc : Thread nD τ), sm) = 0)
      ∧ s'.mem.mem ((c : Thread nD τ).loc main_arg1) = wmat m ρ c⌝ ∗ SI s') : sProp 𝕄) := by
  unfold kept
  iintro ⟨⟨Hu, Hw⟩, -, HSI⟩
  ihave %hw := (SI_pointsTo_agree (st := s')) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hw i (Finset.mem_univ i)⟩
  iexact HSI

/-! ## The run -/

/-- The final contents of the two windows' arrays, and of the weight matrix. -/
def ends (r : PUnit × MemSt nD τ sig (Elt F)) : Prop :=
  ∀ c : Dev nD, (∀ w : Fin cfg0.W, r.2.mem ((cfg0.win w).arr.view.loc (c : Thread nD τ)) = (dats m ρ 0 c).arrAt w cfg0.N)
    ∧ r.2.mem ((c : Thread nD τ).loc main_arg1) = wmat m ρ c

set_option maxRecDepth 8000 in
/-- Every fair run of the four devices from any memory with zero counters terminates with the arrays as the body leaves them
    and every semaphore at zero. -/
theorem run_ends : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _)
    (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (Entails.of_eq (show BI.own (embR (initOf allCells allToks, 1)) = BI.own (ER (initOf allCells allToks)) from rfl)) $$ HX
      imod (fund_all m ρ) $$ HX with HG
      imodintro
      isplitl [HP] <;> iassumption)
    (hglob := glob m ρ)
    (hA := fun _ _ => rfl) (hpf := fun _ k => k.elim0)
    (X := start m ρ) (Y := kept m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wmat m ρ c)
    (hY := kept_read m ρ)
    (hQ := fun _ h hs => ⟨fun c => ⟨(h c).1, (h c).2.2.2⟩, sem_eq_zero hs fun c => (h c).2.2.1⟩)

end Cert.AllToAll

end

end
-- ==== Proof.Results.lean ====
/- What the buffers hold after the run: the two arguments what they held before it, the result what the kernel computes
   from the launch's contents. For any float instance. -/
module

public import proofs.«01_k».proof.Proof.Launch
public import Idealize.ShloMosaic.Lib.Pipeline.ValueKit

@[expose] public section

noncomputable section

namespace Cert.AllToAll

open Cert.KernelIdeal Cert.KernelIdeal.Gen

open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The block of `x` a device holds at launch. -/
def xarg (c : Dev nD) : (cc0_stg0_0 : Ref sig .tc).ty.Contents (Elt F) := m ((c : Thread nD τ).loc main_arg0)

/-- The staging buffer holds the whole of it. -/
theorem xstg_eq (c : Dev nD) : xstg m ρ c = xarg m c := by
  funext i
  show m ((c : Thread nD τ).loc main_arg0) _ = m ((c : Thread nD τ).loc main_arg0) i
  congr 1
  funext a; apply Fin.ext
  exact Window.rect_emb_val_of_index_zero win0_0 (0 : Fin 1) a (by revert a; decide +kernel) i

/-- The array of `x` is not written. -/
theorem arr_x (c : Dev nD) : (dats m ρ 0 c).arrAt 0 cfg0.N = m ((c : Thread nD τ).loc main_arg0) :=
  (dats m ρ 0 c).arrAt_in (0 : Fin 2) rfl _

/-- The result's array holds what the body left in its staging buffer. -/
theorem arr_out (c : Dev nD) : (dats m ρ 0 c).arrAt 1 cfg0.N = (outVal (xarg m) (wmat m ρ c) c : (main_v1 : Ref sig .tc).ty.Contents (Elt F)) := by
  refine (dats m ρ 0 c).arrAt_eq_of_after_last 1 (⟨0, Nat.succ_pos _⟩ : Fin grid0.N) (by decide +kernel) _ fun j => ?_
  rw [← show xstg m ρ = xarg m from funext (xstg_eq m ρ)]
  rfl

/-- Every fair run terminates; each device's arguments end as they began, its result at what the kernel computes; every
    semaphore is at zero. -/
theorem run_results : θ_run defs (onTc (τ := τ) (main (F := F))) ⟨m, fun _ => 0, ρ⟩ (fun r =>
    (∀ c : Dev nD, r.2.mem ((c : Thread nD τ).loc main_v1) = (outVal (xarg m) (m ((c : Thread nD τ).loc main_arg1)) c : (main_v1 : Ref sig .tc).ty.Contents (Elt F))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨((h.1 c).1 1).trans (arr_out m ρ c), ((h.1 c).1 0).trans (arr_x m ρ c), (h.1 c).2⟩, h.2⟩)
    (run_ends m ρ)

end Cert.AllToAll

end

end
-- ==== Proof.Same.lean ====
/- The kernel and its idealization are one program text: the same buffers, the same host function, the same kernel body. So
   what is proved of the second for any float instance is a statement about the first. -/
module

public import proofs.«01_k».proof.Defs
public import proofs.«01_k».proof.Proof.Gen.Kernel
public import proofs.«01_k».proof.Proof.Results

@[expose] public section

noncomputable section

namespace Cert.AllToAll

open Idealize.ShloMosaic Idealize.ShloMosaic.TcCoe
open Idealize.SL Idealize.SL.Sem

variable {F : FTy → Type} [FloatOps F]

attribute [local instance] Cert.Kernel.Gen.facts Cert.KernelIdeal.Gen.facts

/-- The two kernel bodies are one. -/
theorem body_same : @Cert.Kernel.cc0_body F _ _ = @Cert.KernelIdeal.cc0_body F _ _ := rfl

/-- So are the tables of kernel bodies, -/
theorem defs₀_same : Cert.Kernel.defs₀ (F := F) = Cert.KernelIdeal.defs₀ (F := F) := by
  funext p ℓ a
  match p, ℓ, a with
  | .tc, 0, (t, s) => exact rfl
  | .scScalar _, _, _ => rfl
  | .scVector _ _, _, _ => rfl

/-- the tables of all bodies, -/
theorem defs_same : Cert.Kernel.defs (F := F) = Cert.KernelIdeal.defs (F := F) := by
  have h := defs₀_same (F := F)
  unfold Cert.Kernel.defs Cert.KernelIdeal.defs
  exact congrArg (Pipeline.defs Cert.KernelIdeal.pcfgs) h

/-- and the host functions. -/
theorem main_same : Cert.Kernel.main (F := F) = Cert.KernelIdeal.main (F := F) := rfl

/-- The kernel, from any memory with zero counters: it terminates, its arguments are unchanged and every semaphore is at
    zero. -/
theorem quiescent_kernel : Cert.quiescent_Kernel (hKernel := Cert.Kernel.Gen.facts) := by
  intro m g _
  rw [defs_same, main_same]
  exact (θ_run Cert.KernelIdeal.defs _ _).mono (fun _ h => ⟨fun c => (h.1 c).2, h.2⟩) (run_results (F := Bits) m g)

end Cert.AllToAll

end

end
-- ==== Proof.Product.lean ====
/- What the kernel computes at the ideal values, entry by entry: a device's tile of the result is the maximum with zero of the
   sum, over the four devices, of the products of their tile of `x` with the row block of the weight matrix of the same
   number. -/
module

public import proofs.«01_k».proof.Proof.Values
public import Idealize.ShloMosaic.Lib.MatmulPlain
public import Idealize.ShloMosaic.Lib.Pipeline.ValueKit

@[expose] public section

noncomputable section

namespace Cert.AllToAll

open Cert.KernelIdeal Cert.KernelIdeal.Gen

open Idealize.ShloMosaic hiding ix2
open Idealize.ShloMosaic.TcCoe
open Idealize.ShloMosaic.ValueIdx
open scoped BigOperators

/-- Row (or column) `k` of block `j`, of `2048` in four blocks of `512`. -/
def inBlock (j : Dev nD) (k : Fin 512) : Fin 2048 := ⟨512 * j.val + k.val, by have h1 : j.val < 4 := j.isLt; have h2 := k.isLt; omega⟩

section AnyFloat

variable {F : FTy → Type} [FloatOps F]

/-- An entry of a row block of `x`. -/
theorem xblk_apply (X : (cc0_stg0_0 : Ref sig .tc).ty.Contents (Elt F)) (j : Dev nD) (r k : Fin 512) :
    xblk X j (ix2 r k) = X (ix2 (inBlock j r) k) := by
  show X ((Rect.unit (s := S2048x512) ![512 * j.val, 0] S512x512.size (xrows_inb j)).emb (ix2 r k)) = X _
  congr 1
  funext a; apply Fin.ext
  rw [ValueKit.rect_emb_unit_val]
  match a with
  | ⟨0, _⟩ => rfl
  | ⟨1, _⟩ => exact Nat.zero_add _

/-- An entry of a row block of the weight matrix. -/
theorem wblk_apply (W : (main_arg1 : Ref sig .tc).ty.Contents (Elt F)) (j : Dev nD) (k : Fin 512) (l : Fin 2048) :
    wblk W j (ix2 k l) = W (ix2 (inBlock j k) l) := by
  show W ((Rect.unit (s := S2048x2048) (k0_off1 j) S512x2048.size (k0_off1_inb j)).emb (ix2 k l)) = W _
  congr 1
  funext a; apply Fin.ext
  rw [ValueKit.rect_emb_unit_val, congrFun (k0_off1_eq j) a]
  match a with
  | ⟨0, _⟩ => rfl
  | ⟨1, _⟩ => exact Nat.zero_add _

/-- A weight tile loaded with a leading axis, that axis taken away. -/
theorem leadW_back (w : FVec F S512x2048 .f32) : shapeCast S512x2048 (leadW w) shapeCasts_S1x512x2048_S512x2048 = w :=
  shapeCast_back w _ _

end AnyFloat

/-- One entry of the product of a tile of `x` with a tile of the weight matrix. -/
def dot (a : FVec Ideal S512x512 .f32) (b : FVec Ideal S512x2048 .f32) (r : Fin 512) (l : Fin 2048) : EReal :=
  ∑ k : Fin 512, a (ix2 r k) * b (ix2 k l)

theorem matmul_dot (a : FVec Ideal S512x512 .f32) (b : FVec Ideal S512x2048 .f32) (r : Fin 512) (l : Fin 2048) :
    matmul dot_S512x512_S512x2048_S512x2048_1_0_0_1_n_n none a b (constant S512x2048 .f32 0x00000000#32) (ix2 r l) = dot a b r l := by
  refine (Ideal.matmul_plain_apply (M := 512) (K := 512) (N := 2048) none a b (constant S512x2048 .f32 0x00000000#32) r l).trans ?_
  show Ideal.ofBits .f32 0x00000000#32 + _ = _
  rw [Ideal.ofBits_zero_f32, zero_add]
  rfl

variable (X : Dev nD → FVec Ideal S2048x512 .f32) (W : FVec Ideal S2048x2048 .f32)

/-- The contribution of device `d` to an entry of device `c`'s tile: the rows of `c` in `d`'s columns of `x`, times row block
    `d` of the weight matrix. -/
def part (c d : Dev nD) (r : Fin 512) (l : Fin 2048) : EReal :=
  ∑ k : Fin 512, X d (ix2 (inBlock c r) k) * W (ix2 (inBlock d k) l)

theorem dot_part (c d : Dev nD) (r : Fin 512) (l : Fin 2048) : dot (xblk (X d) c) (wblk W d) r l = part X W c d r l := by
  unfold dot part
  exact Finset.sum_congr rfl fun k _ => by rw [xblk_apply, wblk_apply]

/-- A tile sent and loaded back in the wide format is the tile: a change of format is the identity on the extended reals. -/
theorem extf_sent (Y : FVec Ideal S2048x512 .f32) (j : Dev nD) :
    extf .f32 (shapeCast S512x512 (lead (sentTo (F := Ideal) Y j)) shapeCasts_S1x512x512_S512x512) bitsLt_bf16_f32 = xblk (F := Ideal) Y j := by
  unfold lead
  rw [shapeCast_back]
  rfl

/-- The kernel's product of two tiles known to be those two. -/
theorem matmul_part (c d : Dev nD) (r : Fin 512) (l : Fin 2048) {a : FVec Ideal S512x512 .f32} {b : FVec Ideal S512x2048 .f32}
    (ha : a = xblk (F := Ideal) (X d) c) (hb : b = wblk (F := Ideal) W d) :
    matmul dot_S512x512_S512x2048_S512x2048_1_0_0_1_n_n none a b (constant S512x2048 .f32 0x00000000#32) (ix2 r l) = part X W c d r l := by
  rw [matmul_dot, ha, hb, dot_part]

/-- The accumulator after a device's own block, -/
theorem acc0_apply (c : Dev nD) (r : Fin 512) (l : Fin 2048) : acc0 (F := Ideal) X W c (ix2 r l) = part X W c c r l := by
  unfold acc0 k0_pay6
  simp only [shapeCast_same]
  exact matmul_part X W c c r l rfl (leadW_back _)

/-- after the block of the next device, -/
theorem acc1_apply (c : Dev nD) (r : Fin 512) (l : Fin 2048) :
    acc1 (F := Ideal) X W c (ix2 r l) = part X W c c r l + part X W c (nx 1 c) r l := by
  unfold acc1 k0_pay7
  simp only [shapeCast_same]
  exact congrArg₂ (· + ·) (acc0_apply X W c r l) (matmul_part X W c _ r l (extf_sent _ _) (leadW_back _))

/-- of the one after that, -/
theorem acc2_apply (c : Dev nD) (r : Fin 512) (l : Fin 2048) :
    acc2 (F := Ideal) X W c (ix2 r l) = part X W c c r l + part X W c (nx 1 c) r l + part X W c (nx 2 c) r l := by
  unfold acc2 k0_pay10 k0_pay8 k0_pay9
  simp only [shapeCast_same]
  exact congrArg₂ (· + ·) (acc1_apply X W c r l) (matmul_part X W c _ r l (extf_sent _ _) (leadW_back _))

/-- of the last. -/
theorem acc3_apply (c : Dev nD) (r : Fin 512) (l : Fin 2048) :
    acc3 (F := Ideal) X W c (ix2 r l) = part X W c c r l + part X W c (nx 1 c) r l + part X W c (nx 2 c) r l + part X W c (nx 3 c) r l := by
  unfold acc3 k0_pay11
  simp only [shapeCast_same]
  exact congrArg₂ (· + ·) (acc2_apply X W c r l) (matmul_part X W c _ r l (extf_sent _ _) (leadW_back _))

/-- The four devices, counted from any of them. -/
theorem sum_devs (f : Dev nD → EReal) (c : Dev nD) : f c + f (nx 1 c) + f (nx 2 c) + f (nx 3 c) = ∑ d : Dev nD, f d := by
  rw [devs_eq c, List.sum_toFinset _ (devs_nodup c)]
  simp [add_assoc]

/-- What device `c`'s tile of the result ends holding. -/
theorem outVal_apply (c : Dev nD) (r : Fin 512) (l : Fin 2048) :
    outVal (F := Ideal) X W c (ix2 r l) = Scalar.maximumf (φ := .f32) (∑ d : Dev nD, part X W c d r l) (Scalar.ofBits (F := Ideal) .f32 0x00000000#32) := by
  unfold outVal k0_pay1
  simp only [shapeCast_same]
  show Scalar.maximumf (φ := .f32) (acc3 (F := Ideal) X W c (ix2 r l)) _ = _
  rw [acc3_apply, sum_devs (fun d => part X W c d r l)]
  rfl

end Cert.AllToAll

end

end
-- ==== Proof.Equation.lean ====
/- What the reference computes, and the equation: a device's tile of the kernel's result is its block of rows of the
   reference's. -/
module

public import proofs.«01_k».proof.Proof.Product
public import proofs.«01_k».proof.Proof.Gen.ReferenceIdeal
public import Idealize.ShloMosaic.Lib.Layout
public import Idealize.ShloMosaic.Lib.StackMember

@[expose] public section

noncomputable section

namespace Cert.AllToAll

open Cert.KernelIdeal (S2048x512 S512x2048 S2048x2048 nD)

open Idealize.ShloMosaic hiding ix2
open Idealize.ShloMosaic.TcCoe
open Idealize.ShloMosaic.ValueIdx
open scoped BigOperators

/-- The reference's result: the whole product, then the maximum with zero. -/
def refVal (x w : FVec Ideal S2048x2048 .f32) : FVec Ideal S2048x2048 .f32 :=
  maximumf (Host.dotGeneral Cert.ReferenceIdeal.dot_S2048x2048_S2048x2048_S2048x2048_1_0_0_1_n_n none x w)
    (broadcastInDim Cert.ReferenceIdeal.S2048x2048 ![] Cert.ReferenceIdeal.Facts₀.bcast_S_S2048x2048 (constant Cert.ReferenceIdeal.S_ .f32 0x00000000#32))

/-- An entry of it. -/
theorem refVal_apply (x w : FVec Ideal S2048x2048 .f32) (i l : Fin 2048) :
    refVal x w (ix2 i l) = Scalar.maximumf (φ := .f32) (∑ k : Fin 2048, x (ix2 i k) * w (ix2 k l)) (Scalar.ofBits (F := Ideal) .f32 0x00000000#32) :=
  congrArg (fun v : EReal => Scalar.maximumf (F := Ideal) (φ := .f32) v (Scalar.ofBits (F := Ideal) .f32 0x00000000#32))
    (StackMember.dotGeneral_plain_apply none x w i l)

/-- A sum over `2048` positions, block by block. -/
theorem sum_blocks (f : Fin 2048 → EReal) : ∑ k : Fin 2048, f k = ∑ d : Dev nD, ∑ k : Fin 512, f (inBlock d k) := by
  rw [← Fintype.sum_prod_type' (fun (d : Dev nD) (k : Fin 512) => f (inBlock d k))]
  exact (Fintype.sum_equiv (finProdFinEquiv (m := 4) (n := 512)) _ _ fun p => congrArg f (Fin.ext (by
    show 512 * p.1.val + p.2.val = p.2.val + 512 * p.1.val; omega))).symm

theorem tiles_x : Layout.Tiles S2048x512 S2048x2048 1 4 := by decide
theorem tiles_out : Layout.Tiles S512x2048 S2048x2048 0 4 := by decide

/-- An entry of a device's block of columns of `x`. -/
theorem block_x (x : FVec Ideal S2048x2048 .f32) (d : Dev nD) (i : Fin 2048) (k : Fin 512) :
    Layout.block S2048x512 S2048x2048 1 4 d x tiles_x (ix2 i k) = x (ix2 i (inBlock d k)) := by
  rw [Layout.block_apply]
  congr 1
  funext a; apply Fin.ext
  match a with
  | ⟨0, _⟩ => rfl
  | ⟨1, _⟩ => show d.val * 512 + k.val = 512 * d.val + k.val; omega

/-- An entry of a device's block of rows of the result. -/
theorem block_out (y : FVec Ideal S2048x2048 .f32) (c : Dev nD) (r : Fin 512) (l : Fin 2048) :
    Layout.block S512x2048 S2048x2048 0 4 c y tiles_out (ix2 r l) = y (ix2 (inBlock c r) l) := by
  rw [Layout.block_apply]
  congr 1
  funext a; apply Fin.ext
  match a with
  | ⟨0, _⟩ => show c.val * 512 + r.val = 512 * c.val + r.val; omega
  | ⟨1, _⟩ => rfl

/-- THE EQUATION: with each device holding its block of columns of `x`, device `c`'s tile of the kernel's result is block `c`
    of the rows of the reference's. -/
theorem outVal_eq (x w : FVec Ideal S2048x2048 .f32) (c : Dev nD) :
    outVal (F := Ideal) (fun d => Layout.block S2048x512 S2048x2048 1 4 d x tiles_x) w c
      = Layout.block S512x2048 S2048x2048 0 4 c (refVal x w) tiles_out := by
  funext j
  obtain ⟨r, l, rfl⟩ : ∃ (r : Fin 512) (l : Fin 2048), j = ix2 r l := ⟨j 0, j 1, ValueIdx.eq_ix2 j⟩
  rw [block_out, refVal_apply, sum_blocks]
  refine (outVal_apply (fun d => Layout.block S2048x512 S2048x2048 1 4 d x tiles_x) w c r l).trans ?_
  congr 1
  refine Finset.sum_congr rfl fun d _ => Finset.sum_congr rfl fun k _ => ?_
  exact congrArg (· * w (ix2 (inBlock d k) l)) (block_x x d (inBlock c r) k)

end Cert.AllToAll

end

end
-- ==== Proof.lean ====
/- The five claims: the kernel and its idealization run, leave their arguments unchanged and every semaphore at zero; so does
   the reference; the idealization is the kernel's own text; and, at the ideal values, each device's result is its block of
   rows of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Results
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The idealization, from any memory with zero counters: it terminates, its arguments are unchanged and every semaphore is
    at zero. -/
theorem quiescent_ideal : Cert.quiescent_KernelIdeal (hKernelIdeal := Cert.KernelIdeal.Gen.facts) := fun m g _ =>
  (θ_run Cert.KernelIdeal.defs _ _).mono (fun _ h => ⟨fun c => (h.1 c).2, h.2⟩) (Cert.AllToAll.run_results (F := Ideal) m g)

/-- The reference likewise; it has no semaphore. -/
theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- At the ideal values, each device holding its block of columns of `x` and a copy of the weight matrix: its result is its
    block of rows of the reference's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.AllToAll.refVal (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.AllToAll.run_results (F := Ideal) m g)
    rw [(hagree c).2, show Cert.AllToAll.xarg m = _ from funext fun d => (hagree d).1]
    exact Cert.AllToAll.outVal_eq _ _ c
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    Cert.AllToAll.quiescent_kernel, quiescent_ideal, quiescent_reference, trivial, algebraic⟩

end Cert.Proof

end
